-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 2048, 16, 64]⟩ ⟨4, ![2, 2048, 64, 64]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨3, ![2, 512, 4096]⟩ ⟨3, ![2, 2048, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x16x64 : Shape := ⟨4, ![2, 2048, 16, 64]⟩
abbrev S1024x4096 : Shape := ⟨2, ![1024, 4096]⟩
abbrev S2x2048x1024 : Shape := ⟨3, ![2, 2048, 1024]⟩
abbrev S2x512x4096 : Shape := ⟨3, ![2, 512, 4096]⟩
abbrev S8x2x256x512 : Shape := ⟨4, ![8, 2, 256, 512]⟩
abbrev S8x2x2x256x512 : Shape := ⟨5, ![8, 2, 2, 256, 512]⟩
abbrev S2x2x256x512 : Shape := ⟨4, ![2, 2, 256, 512]⟩
abbrev S2x2x256x1024 : Shape := ⟨4, ![2, 2, 256, 1024]⟩
abbrev S8 : Shape := ⟨1, ![8]⟩
abbrev S8x2 : Shape := ⟨2, ![8, 2]⟩
abbrev S2 : Shape := ⟨1, ![2]⟩
abbrev S1 : Shape := ⟨1, ![1]⟩
abbrev S_ : Shape := ⟨0, ![]⟩
abbrev S1x2x256x1024 : Shape := ⟨4, ![1, 2, 256, 1024]⟩
abbrev S2x256x1024 : Shape := ⟨3, ![2, 256, 1024]⟩
abbrev S1024x512 : Shape := ⟨2, ![1024, 512]⟩
abbrev S2x256x512 : Shape := ⟨3, ![2, 256, 512]⟩
abbrev S1x2x256x512 : Shape := ⟨4, ![1, 2, 256, 512]⟩
abbrev S1x1 : Shape := ⟨2, ![1, 1]⟩
abbrev S1x1x2x256x512 : Shape := ⟨5, ![1, 1, 2, 256, 512]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x16x64, .bf16⟩
  | .hbm, ⟨1, _⟩ => ⟨S1024x4096, .bf16⟩
  | .hbm, ⟨2, _⟩ => ⟨S2x2048x1024, .bf16⟩
  | .hbm, ⟨3, _⟩ => ⟨S2x512x4096, .f32⟩
  | .local _ .vmem, ⟨0, _⟩ => ⟨S1024x4096, .bf16⟩
  | .local _ .vmem, ⟨1, _⟩ => ⟨S8x2x256x512, .bf16⟩
  | .local _ .vmem, ⟨2, _⟩ => ⟨S8x2x2x256x512, .bf16⟩
  | .local _ .vmem, ⟨3, _⟩ => ⟨S2x2x256x512, .f32⟩
  | .local _ .vmem, ⟨4, _⟩ => ⟨S2x2x256x1024, .bf16⟩
  | _, _ => ⟨S2x2048x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 9 29 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 8

abbrev nD : Nat := 4
abbrev τ : Topo := Topo.v7x

variable {F : FTy → Type} [FloatOps F]

abbrev grid0 : Pipeline.Grid := .none

def k0_off1 (d0 : Dev nD) (c0_i32_17 : BitVec 32) : Fin 3 → Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v8 : BitVec 32 := Scalar.addi v2 c4_i32_5
  let c1_i32_6 : BitVec 32 := 1#32
  let v9 : BitVec 32 := Scalar.subi v8 c1_i32_6
  let c4_i32_7 : BitVec 32 := 4#32
  let v10 : BitVec 32 := Scalar.remsi v9 c4_i32_7
  let c512_i32 : BitVec 32 := 512#32
  let v23 : BitVec 32 := Scalar.muli v10 c512_i32
  let v24 : BitVec 32 := Scalar.addi v23 c0_i32_17
  let c0_i32_24 : BitVec 32 := 0#32
  ![0, v24.toNat, 0]
def k0_off2 (d0 : Dev nD) (c0_i32 : BitVec 32) (c0_i32_26 : BitVec 32) : Fin 3 → Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v11 : BitVec 32 := Scalar.addi v2 c8_i32
  let v12 : BitVec 32 := Scalar.subi v11 c0_i32
  let c2_i32 : BitVec 32 := 2#32
  let v13 : BitVec 32 := Scalar.subi v12 c2_i32
  let c4_i32_8 : BitVec 32 := 4#32
  let v14 : BitVec 32 := Scalar.remsi v13 c4_i32_8
  let c512_i32_25 : BitVec 32 := 512#32
  let v30 : BitVec 32 := Scalar.muli v14 c512_i32_25
  let v31 : BitVec 32 := Scalar.addi v30 c0_i32_26
  let c0_i32_33 : BitVec 32 := 0#32
  ![0, v31.toNat, 0]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_35 : BitVec 32 := 1#32
  let v38 : BitVec 32 := Scalar.muli v5 c1_i32_35
  let v39 : BitVec 32 := Scalar.addi c0_i32_36 v38
  v39.toNat
def k0_dev2 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v40 : BitVec 32 := Scalar.muli v7 c1_i32_38
  let v41 : BitVec 32 := Scalar.addi c0_i32_39 v40
  v41.toNat
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_74 : BitVec 32 := 1#32
  let v65 : BitVec 32 := Scalar.muli v7 c1_i32_74
  let v66 : BitVec 32 := Scalar.addi c0_i32_75 v65
  v66.toNat
def k0_dev4 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_93 : BitVec 32 := 1#32
  let v82 : BitVec 32 := Scalar.muli v7 c1_i32_93
  let v83 : BitVec 32 := Scalar.addi c0_i32_94 v82
  v83.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_112 : BitVec 32 := 1#32
  let v99 : BitVec 32 := Scalar.muli v7 c1_i32_112
  let v100 : BitVec 32 := Scalar.addi c0_i32_113 v99
  v100.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_130 : BitVec 32 := 1#32
  let v116 : BitVec 32 := Scalar.muli v7 c1_i32_130
  let v117 : BitVec 32 := Scalar.addi c0_i32_131 v116
  v117.toNat
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_149 : BitVec 32 := 1#32
  let v133 : BitVec 32 := Scalar.muli v7 c1_i32_149
  let v134 : BitVec 32 := Scalar.addi c0_i32_150 v133
  v134.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_167 : BitVec 32 := 1#32
  let v150 : BitVec 32 := Scalar.muli v7 c1_i32_167
  let v151 : BitVec 32 := Scalar.addi c0_i32_168 v150
  v151.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_185 : BitVec 32 := 1#32
  let v167 : BitVec 32 := Scalar.muli v7 c1_i32_185
  let v168 : BitVec 32 := Scalar.addi c0_i32_186 v167
  v168.toNat
def k0_dev10 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_203 : BitVec 32 := 1#32
  let v184 : BitVec 32 := Scalar.muli v7 c1_i32_203
  let v185 : BitVec 32 := Scalar.addi c0_i32_204 v184
  v185.toNat
def k0_dev11 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_256 : BitVec 32 := 1#32
  let v227 : BitVec 32 := Scalar.muli v5 c1_i32_256
  let v228 : BitVec 32 := Scalar.addi c0_i32_257 v227
  v228.toNat
def k0_dev12 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_281 : BitVec 32 := 1#32
  let v239 : BitVec 32 := Scalar.muli v7 c1_i32_281
  let v240 : BitVec 32 := Scalar.addi c0_i32_282 v239
  v240.toNat
def k0_dev13 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_313 : BitVec 32 := 1#32
  let v266 : BitVec 32 := Scalar.muli v5 c1_i32_313
  let v267 : BitVec 32 := Scalar.addi c0_i32_314 v266
  v267.toNat
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_338 : BitVec 32 := 1#32
  let v278 : BitVec 32 := Scalar.muli v7 c1_i32_338
  let v279 : BitVec 32 := Scalar.addi c0_i32_339 v278
  v279.toNat
def k0_dev15 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_370 : BitVec 32 := 1#32
  let v305 : BitVec 32 := Scalar.muli v5 c1_i32_370
  let v306 : BitVec 32 := Scalar.addi c0_i32_371 v305
  v306.toNat
def k0_dev16 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_395 : BitVec 32 := 1#32
  let v317 : BitVec 32 := Scalar.muli v7 c1_i32_395
  let v318 : BitVec 32 := Scalar.addi c0_i32_396 v317
  v318.toNat
def k0_dev17 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_427 : BitVec 32 := 1#32
  let v344 : BitVec 32 := Scalar.muli v5 c1_i32_427
  let v345 : BitVec 32 := Scalar.addi c0_i32_428 v344
  v345.toNat
def k0_dev18 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_452 : BitVec 32 := 1#32
  let v356 : BitVec 32 := Scalar.muli v7 c1_i32_452
  let v357 : BitVec 32 := Scalar.addi c0_i32_453 v356
  v357.toNat
def k0_dev19 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_484 : BitVec 32 := 1#32
  let v383 : BitVec 32 := Scalar.muli v5 c1_i32_484
  let v384 : BitVec 32 := Scalar.addi c0_i32_485 v383
  v384.toNat
def k0_dev20 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_509 : BitVec 32 := 1#32
  let v395 : BitVec 32 := Scalar.muli v7 c1_i32_509
  let v396 : BitVec 32 := Scalar.addi c0_i32_510 v395
  v396.toNat
def k0_dev21 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_541 : BitVec 32 := 1#32
  let v422 : BitVec 32 := Scalar.muli v5 c1_i32_541
  let v423 : BitVec 32 := Scalar.addi c0_i32_542 v422
  v423.toNat
def k0_dev22 (d0 : Dev nD) : Nat :=
  let c0_i32_567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_566 : BitVec 32 := 1#32
  let v434 : BitVec 32 := Scalar.muli v7 c1_i32_566
  let v435 : BitVec 32 := Scalar.addi c0_i32_567 v434
  v435.toNat
def k0_dev23 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_598 : BitVec 32 := 1#32
  let v461 : BitVec 32 := Scalar.muli v5 c1_i32_598
  let v462 : BitVec 32 := Scalar.addi c0_i32_599 v461
  v462.toNat
def k0_dev24 (d0 : Dev nD) : Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_623 : BitVec 32 := 1#32
  let v473 : BitVec 32 := Scalar.muli v7 c1_i32_623
  let v474 : BitVec 32 := Scalar.addi c0_i32_624 v473
  v474.toNat
def k0_dev25 (d0 : Dev nD) : Nat :=
  let c0_i32_656 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_655 : BitVec 32 := 1#32
  let v500 : BitVec 32 := Scalar.muli v5 c1_i32_655
  let v501 : BitVec 32 := Scalar.addi c0_i32_656 v500
  v501.toNat
def k0_dev26 (d0 : Dev nD) : Nat :=
  let c0_i32_681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_680 : BitVec 32 := 1#32
  let v512 : BitVec 32 := Scalar.muli v7 c1_i32_680
  let v513 : BitVec 32 := Scalar.addi c0_i32_681 v512
  v513.toNat
def k0_dev27 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_734 : BitVec 32 := 1#32
  let v555 : BitVec 32 := Scalar.muli v5 c1_i32_734
  let v556 : BitVec 32 := Scalar.addi c0_i32_735 v555
  v556.toNat
def k0_dev28 (d0 : Dev nD) : Nat :=
  let c0_i32_763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_762 : BitVec 32 := 1#32
  let v569 : BitVec 32 := Scalar.muli v7 c1_i32_762
  let v570 : BitVec 32 := Scalar.addi c0_i32_763 v569
  v570.toNat
def k0_dev29 (d0 : Dev nD) : Nat :=
  let c0_i32_795 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_794 : BitVec 32 := 1#32
  let v596 : BitVec 32 := Scalar.muli v5 c1_i32_794
  let v597 : BitVec 32 := Scalar.addi c0_i32_795 v596
  v597.toNat
def k0_dev30 (d0 : Dev nD) : Nat :=
  let c0_i32_823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_822 : BitVec 32 := 1#32
  let v610 : BitVec 32 := Scalar.muli v7 c1_i32_822
  let v611 : BitVec 32 := Scalar.addi c0_i32_823 v610
  v611.toNat
def k0_dev31 (d0 : Dev nD) : Nat :=
  let c0_i32_855 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_854 : BitVec 32 := 1#32
  let v637 : BitVec 32 := Scalar.muli v5 c1_i32_854
  let v638 : BitVec 32 := Scalar.addi c0_i32_855 v637
  v638.toNat
def k0_dev32 (d0 : Dev nD) : Nat :=
  let c0_i32_883 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_882 : BitVec 32 := 1#32
  let v651 : BitVec 32 := Scalar.muli v7 c1_i32_882
  let v652 : BitVec 32 := Scalar.addi c0_i32_883 v651
  v652.toNat
def k0_dev33 (d0 : Dev nD) : Nat :=
  let c0_i32_915 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_914 : BitVec 32 := 1#32
  let v678 : BitVec 32 := Scalar.muli v5 c1_i32_914
  let v679 : BitVec 32 := Scalar.addi c0_i32_915 v678
  v679.toNat
def k0_dev34 (d0 : Dev nD) : Nat :=
  let c0_i32_943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_942 : BitVec 32 := 1#32
  let v692 : BitVec 32 := Scalar.muli v7 c1_i32_942
  let v693 : BitVec 32 := Scalar.addi c0_i32_943 v692
  v693.toNat
def k0_dev35 (d0 : Dev nD) : Nat :=
  let c0_i32_975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_974 : BitVec 32 := 1#32
  let v719 : BitVec 32 := Scalar.muli v5 c1_i32_974
  let v720 : BitVec 32 := Scalar.addi c0_i32_975 v719
  v720.toNat
def k0_dev36 (d0 : Dev nD) : Nat :=
  let c0_i32_1003 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1002 : BitVec 32 := 1#32
  let v733 : BitVec 32 := Scalar.muli v7 c1_i32_1002
  let v734 : BitVec 32 := Scalar.addi c0_i32_1003 v733
  v734.toNat
def k0_dev37 (d0 : Dev nD) : Nat :=
  let c0_i32_1035 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1034 : BitVec 32 := 1#32
  let v760 : BitVec 32 := Scalar.muli v5 c1_i32_1034
  let v761 : BitVec 32 := Scalar.addi c0_i32_1035 v760
  v761.toNat
def k0_dev38 (d0 : Dev nD) : Nat :=
  let c0_i32_1063 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1062 : BitVec 32 := 1#32
  let v774 : BitVec 32 := Scalar.muli v7 c1_i32_1062
  let v775 : BitVec 32 := Scalar.addi c0_i32_1063 v774
  v775.toNat
def k0_dev39 (d0 : Dev nD) : Nat :=
  let c0_i32_1095 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1094 : BitVec 32 := 1#32
  let v801 : BitVec 32 := Scalar.muli v5 c1_i32_1094
  let v802 : BitVec 32 := Scalar.addi c0_i32_1095 v801
  v802.toNat
def k0_dev40 (d0 : Dev nD) : Nat :=
  let c0_i32_1123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1122 : BitVec 32 := 1#32
  let v815 : BitVec 32 := Scalar.muli v7 c1_i32_1122
  let v816 : BitVec 32 := Scalar.addi c0_i32_1123 v815
  v816.toNat
def k0_dev41 (d0 : Dev nD) : Nat :=
  let c0_i32_1155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1154 : BitVec 32 := 1#32
  let v842 : BitVec 32 := Scalar.muli v5 c1_i32_1154
  let v843 : BitVec 32 := Scalar.addi c0_i32_1155 v842
  v843.toNat
def k0_dev42 (d0 : Dev nD) : Nat :=
  let c0_i32_1183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1182 : BitVec 32 := 1#32
  let v856 : BitVec 32 := Scalar.muli v7 c1_i32_1182
  let v857 : BitVec 32 := Scalar.addi c0_i32_1183 v856
  v857.toNat
def k0_dev43 (d0 : Dev nD) : Nat :=
  let c0_i32_1242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1241 : BitVec 32 := 1#32
  let v897 : BitVec 32 := Scalar.muli v7 c1_i32_1241
  let v898 : BitVec 32 := Scalar.addi c0_i32_1242 v897
  v898.toNat
def k0_dev44 (d0 : Dev nD) : Nat :=
  let c0_i32_1279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1278 : BitVec 32 := 1#32
  let v922 : BitVec 32 := Scalar.muli v7 c1_i32_1278
  let v923 : BitVec 32 := Scalar.addi c0_i32_1279 v922
  v923.toNat
def k0_dev45 (d0 : Dev nD) : Nat :=
  let c0_i32_1316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1315 : BitVec 32 := 1#32
  let v947 : BitVec 32 := Scalar.muli v7 c1_i32_1315
  let v948 : BitVec 32 := Scalar.addi c0_i32_1316 v947
  v948.toNat
def k0_dev46 (d0 : Dev nD) : Nat :=
  let c0_i32_1353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1352 : BitVec 32 := 1#32
  let v972 : BitVec 32 := Scalar.muli v7 c1_i32_1352
  let v973 : BitVec 32 := Scalar.addi c0_i32_1353 v972
  v973.toNat
def k0_dev47 (d0 : Dev nD) : Nat :=
  let c0_i32_1390 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1389 : BitVec 32 := 1#32
  let v997 : BitVec 32 := Scalar.muli v7 c1_i32_1389
  let v998 : BitVec 32 := Scalar.addi c0_i32_1390 v997
  v998.toNat
def k0_dev48 (d0 : Dev nD) : Nat :=
  let c0_i32_1427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1426 : BitVec 32 := 1#32
  let v1022 : BitVec 32 := Scalar.muli v7 c1_i32_1426
  let v1023 : BitVec 32 := Scalar.addi c0_i32_1427 v1022
  v1023.toNat
def k0_dev49 (d0 : Dev nD) : Nat :=
  let c0_i32_1464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1463 : BitVec 32 := 1#32
  let v1047 : BitVec 32 := Scalar.muli v7 c1_i32_1463
  let v1048 : BitVec 32 := Scalar.addi c0_i32_1464 v1047
  v1048.toNat
def k0_dev50 (d0 : Dev nD) : Nat :=
  let c0_i32_1501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1500 : BitVec 32 := 1#32
  let v1072 : BitVec 32 := Scalar.muli v7 c1_i32_1500
  let v1073 : BitVec 32 := Scalar.addi c0_i32_1501 v1072
  v1073.toNat
def k0_dev51 (d0 : Dev nD) : Nat :=
  let c0_i32_1555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1554 : BitVec 32 := 1#32
  let v1115 : BitVec 32 := Scalar.muli v5 c1_i32_1554
  let v1116 : BitVec 32 := Scalar.addi c0_i32_1555 v1115
  v1116.toNat
def k0_dev52 (d0 : Dev nD) : Nat :=
  let c0_i32_1593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1592 : BitVec 32 := 1#32
  let v1142 : BitVec 32 := Scalar.muli v5 c1_i32_1592
  let v1143 : BitVec 32 := Scalar.addi c0_i32_1593 v1142
  v1143.toNat
def k0_dev53 (d0 : Dev nD) : Nat :=
  let c0_i32_1631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1630 : BitVec 32 := 1#32
  let v1169 : BitVec 32 := Scalar.muli v5 c1_i32_1630
  let v1170 : BitVec 32 := Scalar.addi c0_i32_1631 v1169
  v1170.toNat
def k0_dev54 (d0 : Dev nD) : Nat :=
  let c0_i32_1676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1675 : BitVec 32 := 1#32
  let v1201 : BitVec 32 := Scalar.muli v5 c1_i32_1675
  let v1202 : BitVec 32 := Scalar.addi c0_i32_1676 v1201
  v1202.toNat
def k0_dev55 (d0 : Dev nD) : Nat :=
  let c0_i32_1721 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1720 : BitVec 32 := 1#32
  let v1233 : BitVec 32 := Scalar.muli v5 c1_i32_1720
  let v1234 : BitVec 32 := Scalar.addi c0_i32_1721 v1233
  v1234.toNat
def k0_dev56 (d0 : Dev nD) : Nat :=
  let c0_i32_1766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1765 : BitVec 32 := 1#32
  let v1265 : BitVec 32 := Scalar.muli v5 c1_i32_1765
  let v1266 : BitVec 32 := Scalar.addi c0_i32_1766 v1265
  v1266.toNat
def k0_dev57 (d0 : Dev nD) : Nat :=
  let c0_i32_1811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1810 : BitVec 32 := 1#32
  let v1297 : BitVec 32 := Scalar.muli v5 c1_i32_1810
  let v1298 : BitVec 32 := Scalar.addi c0_i32_1811 v1297
  v1298.toNat
def k0_dev58 (d0 : Dev nD) : Nat :=
  let c0_i32_1856 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1855 : BitVec 32 := 1#32
  let v1329 : BitVec 32 := Scalar.muli v5 c1_i32_1855
  let v1330 : BitVec 32 := Scalar.addi c0_i32_1856 v1329
  v1330.toNat
def k0_dev59 (d0 : Dev nD) : Nat :=
  let c0_i32_1923 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1922 : BitVec 32 := 1#32
  let v1377 : BitVec 32 := Scalar.muli v5 c1_i32_1922
  let v1378 : BitVec 32 := Scalar.addi c0_i32_1923 v1377
  v1378.toNat
def k0_dev60 (d0 : Dev nD) : Nat :=
  let c0_i32_1951 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1950 : BitVec 32 := 1#32
  let v1391 : BitVec 32 := Scalar.muli v7 c1_i32_1950
  let v1392 : BitVec 32 := Scalar.addi c0_i32_1951 v1391
  v1392.toNat
def k0_dev61 (d0 : Dev nD) : Nat :=
  let c0_i32_1983 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1982 : BitVec 32 := 1#32
  let v1418 : BitVec 32 := Scalar.muli v5 c1_i32_1982
  let v1419 : BitVec 32 := Scalar.addi c0_i32_1983 v1418
  v1419.toNat
def k0_dev62 (d0 : Dev nD) : Nat :=
  let c0_i32_2011 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2010 : BitVec 32 := 1#32
  let v1432 : BitVec 32 := Scalar.muli v7 c1_i32_2010
  let v1433 : BitVec 32 := Scalar.addi c0_i32_2011 v1432
  v1433.toNat
def k0_dev63 (d0 : Dev nD) : Nat :=
  let c0_i32_2043 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2042 : BitVec 32 := 1#32
  let v1459 : BitVec 32 := Scalar.muli v5 c1_i32_2042
  let v1460 : BitVec 32 := Scalar.addi c0_i32_2043 v1459
  v1460.toNat
def k0_dev64 (d0 : Dev nD) : Nat :=
  let c0_i32_2071 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2070 : BitVec 32 := 1#32
  let v1473 : BitVec 32 := Scalar.muli v7 c1_i32_2070
  let v1474 : BitVec 32 := Scalar.addi c0_i32_2071 v1473
  v1474.toNat
def k0_dev65 (d0 : Dev nD) : Nat :=
  let c0_i32_2103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2102 : BitVec 32 := 1#32
  let v1500 : BitVec 32 := Scalar.muli v5 c1_i32_2102
  let v1501 : BitVec 32 := Scalar.addi c0_i32_2103 v1500
  v1501.toNat
def k0_dev66 (d0 : Dev nD) : Nat :=
  let c0_i32_2131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2130 : BitVec 32 := 1#32
  let v1514 : BitVec 32 := Scalar.muli v7 c1_i32_2130
  let v1515 : BitVec 32 := Scalar.addi c0_i32_2131 v1514
  v1515.toNat
def k0_dev67 (d0 : Dev nD) : Nat :=
  let c0_i32_2163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2162 : BitVec 32 := 1#32
  let v1541 : BitVec 32 := Scalar.muli v5 c1_i32_2162
  let v1542 : BitVec 32 := Scalar.addi c0_i32_2163 v1541
  v1542.toNat
def k0_dev68 (d0 : Dev nD) : Nat :=
  let c0_i32_2191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2190 : BitVec 32 := 1#32
  let v1555 : BitVec 32 := Scalar.muli v7 c1_i32_2190
  let v1556 : BitVec 32 := Scalar.addi c0_i32_2191 v1555
  v1556.toNat
def k0_dev69 (d0 : Dev nD) : Nat :=
  let c0_i32_2223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2222 : BitVec 32 := 1#32
  let v1582 : BitVec 32 := Scalar.muli v5 c1_i32_2222
  let v1583 : BitVec 32 := Scalar.addi c0_i32_2223 v1582
  v1583.toNat
def k0_dev70 (d0 : Dev nD) : Nat :=
  let c0_i32_2251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2250 : BitVec 32 := 1#32
  let v1596 : BitVec 32 := Scalar.muli v7 c1_i32_2250
  let v1597 : BitVec 32 := Scalar.addi c0_i32_2251 v1596
  v1597.toNat
def k0_dev71 (d0 : Dev nD) : Nat :=
  let c0_i32_2283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2282 : BitVec 32 := 1#32
  let v1623 : BitVec 32 := Scalar.muli v5 c1_i32_2282
  let v1624 : BitVec 32 := Scalar.addi c0_i32_2283 v1623
  v1624.toNat
def k0_dev72 (d0 : Dev nD) : Nat :=
  let c0_i32_2311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2310 : BitVec 32 := 1#32
  let v1637 : BitVec 32 := Scalar.muli v7 c1_i32_2310
  let v1638 : BitVec 32 := Scalar.addi c0_i32_2311 v1637
  v1638.toNat
def k0_dev73 (d0 : Dev nD) : Nat :=
  let c0_i32_2343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2342 : BitVec 32 := 1#32
  let v1664 : BitVec 32 := Scalar.muli v5 c1_i32_2342
  let v1665 : BitVec 32 := Scalar.addi c0_i32_2343 v1664
  v1665.toNat
def k0_dev74 (d0 : Dev nD) : Nat :=
  let c0_i32_2371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2370 : BitVec 32 := 1#32
  let v1678 : BitVec 32 := Scalar.muli v7 c1_i32_2370
  let v1679 : BitVec 32 := Scalar.addi c0_i32_2371 v1678
  v1679.toNat
def k0_dev75 (d0 : Dev nD) : Nat :=
  let c0_i32_2440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2439 : BitVec 32 := 1#32
  let v1724 : BitVec 32 := Scalar.muli v7 c1_i32_2439
  let v1725 : BitVec 32 := Scalar.addi c0_i32_2440 v1724
  v1725.toNat
def k0_dev76 (d0 : Dev nD) : Nat :=
  let c0_i32_2496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2495 : BitVec 32 := 1#32
  let v1761 : BitVec 32 := Scalar.muli v7 c1_i32_2495
  let v1762 : BitVec 32 := Scalar.addi c0_i32_2496 v1761
  v1762.toNat
def k0_dev77 (d0 : Dev nD) : Nat :=
  let c0_i32_2552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2551 : BitVec 32 := 1#32
  let v1798 : BitVec 32 := Scalar.muli v7 c1_i32_2551
  let v1799 : BitVec 32 := Scalar.addi c0_i32_2552 v1798
  v1799.toNat
def k0_dev78 (d0 : Dev nD) : Nat :=
  let c0_i32_2608 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2607 : BitVec 32 := 1#32
  let v1835 : BitVec 32 := Scalar.muli v7 c1_i32_2607
  let v1836 : BitVec 32 := Scalar.addi c0_i32_2608 v1835
  v1836.toNat
def k0_dev79 (d0 : Dev nD) : Nat :=
  let c0_i32_2664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2663 : BitVec 32 := 1#32
  let v1872 : BitVec 32 := Scalar.muli v7 c1_i32_2663
  let v1873 : BitVec 32 := Scalar.addi c0_i32_2664 v1872
  v1873.toNat
def k0_dev80 (d0 : Dev nD) : Nat :=
  let c0_i32_2720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2719 : BitVec 32 := 1#32
  let v1909 : BitVec 32 := Scalar.muli v7 c1_i32_2719
  let v1910 : BitVec 32 := Scalar.addi c0_i32_2720 v1909
  v1910.toNat
def k0_dev81 (d0 : Dev nD) : Nat :=
  let c0_i32_2776 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2775 : BitVec 32 := 1#32
  let v1946 : BitVec 32 := Scalar.muli v7 c1_i32_2775
  let v1947 : BitVec 32 := Scalar.addi c0_i32_2776 v1946
  v1947.toNat
def k0_dev82 (d0 : Dev nD) : Nat :=
  let c0_i32_2832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2831 : BitVec 32 := 1#32
  let v1983 : BitVec 32 := Scalar.muli v7 c1_i32_2831
  let v1984 : BitVec 32 := Scalar.addi c0_i32_2832 v1983
  v1984.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x64x64 : Shape := ⟨4, ![2, 2048, 64, 64]⟩
abbrev S4096x4096 : Shape := ⟨2, ![4096, 4096]⟩
abbrev S2x2048x4096 : Shape := ⟨3, ![2, 2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x64x64, .bf16⟩
  | .hbm, ⟨1, _⟩ => ⟨S4096x4096, .bf16⟩
  | .hbm, ⟨2, _⟩ => ⟨S2x2048x4096, .bf16⟩
  | .hbm, ⟨3, _⟩ => ⟨S2x2048x4096, .f32⟩
  | .hbm, ⟨4, _⟩ => ⟨S2x2048x4096, .bf16⟩
  | .hbm, ⟨5, _⟩ => ⟨S2x2048x4096, .f32⟩
  | _, _ => ⟨S2x2048x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Same.lean ====
module

public import proofs.«01_k».proof.Proof.Gen.Kernel
public import proofs.«01_k».proof.Proof.Gen.KernelIdeal

@[expose] public section

/-! # The two printed kernels are one text -/

namespace Cert.Proof

open Idealize.ShloMosaic Idealize.SL.Sem

variable {F : FTy → Type} [FloatOps F]

/-- The two bodies, over any floats, are the same program. -/
theorem body_same : @Cert.Kernel.cc0_body F _ Cert.Kernel.Gen.facts
    = @Cert.KernelIdeal.cc0_body F _ Cert.KernelIdeal.Gen.facts := rfl

/-- So the two tables of kernel bodies agree, -/
theorem bodies_same : @Cert.Kernel.defs₀ F _ Cert.Kernel.Gen.facts
    = @Cert.KernelIdeal.defs₀ F _ Cert.KernelIdeal.Gen.facts := by
  unfold Cert.Kernel.defs₀ Cert.KernelIdeal.defs₀
  refine congrArg Defs.onTc (funext fun l => funext fun x => ?_)
  match l, x with
  | 0, (t, s) =>
    show @Cert.Kernel.cc0_body F _ Cert.Kernel.Gen.facts _ _ _ _ _ _ _ _ _ _ _ _ _ _ _ _ _ _ _ = _
    rw [body_same]
  | ⟨_ + 1, h⟩, _ => exact absurd h (by omega)

/-- and the tables of everything that the programs call. -/
theorem defs_same : @Cert.Kernel.defs F _ Cert.Kernel.Gen.facts
    = @Cert.KernelIdeal.defs F _ Cert.KernelIdeal.Gen.facts := by
  unfold Cert.Kernel.defs Cert.KernelIdeal.defs
  exact congrArg (Pipeline.defs Cert.KernelIdeal.pcfgs) bodies_same

end Cert.Proof
-- ==== Proof.Prog.lean ====
/-
  The kernel's body, written once per kind of step instead of once per printed line: the buffers
  and semaphores of tile `nt` and slot `s` as functions of `nt` and `s`, a step of each kind as a
  program over them, and the body as those steps in order. `body_eq` says that the printed body is
  this program.
-/
module

public import proofs.«01_k».proof.Proof.Gen.KernelIdeal
public import Idealize.ShloMosaic.Lib.Tactic

@[expose] public section

noncomputable section

namespace Cert.KernelIdeal.Steps

open Idealize.ShloMosaic Idealize.SL.Sem
open Cert.KernelIdeal.Gen

variable {F : FTy → Type} [FloatOps F]

/-! ## Rectangles and the memrefs of one slot -/

theorem inb_w (nt : Fin 8) : ∀ a, (![0, 512 * nt.val] : Fin 2 → Nat) a + S1024x512.size a ≤ S1024x4096.size a := by
  revert nt; decide
theorem inb_send (nt : Fin 8) : ∀ a, (![nt.val, 0, 0, 0] : Fin 4 → Nat) a + S1x2x256x512.size a ≤ S8x2x256x512.size a := by
  revert nt; decide
theorem inb_recv (nt : Fin 8) (s : Fin 2) :
    ∀ a, (![nt.val, s.val, 0, 0, 0] : Fin 5 → Nat) a + S1x1x2x256x512.size a ≤ S8x2x2x256x512.size a := by
  revert nt s; decide
theorem inb_ost (s : Fin 2) : ∀ a, (![s.val, 0, 0, 0] : Fin 4 → Nat) a + S1x2x256x1024.size a ≤ S2x2x256x1024.size a := by
  revert s; decide
theorem inb_stage (s : Fin 2) : ∀ a, (![s.val, 0, 0, 0] : Fin 4 → Nat) a + S1x2x256x512.size a ≤ S2x2x256x512.size a := by
  revert s; decide
theorem inb_out (sub : Fin 2) (nt : Fin 8) :
    ∀ a, (![0, 256 * sub.val, 512 * nt.val] : Fin 3 → Nat) a + S2x256x512.size a ≤ S2x512x4096.size a := by
  revert sub nt; decide
theorem inb_s8 (nt : Fin 8) : ∀ a, (![nt.val] : Fin 1 → Nat) a + S1.size a ≤ S8.size a := by revert nt; decide
theorem inb_s2 (s : Fin 2) : ∀ a, (![s.val] : Fin 1 → Nat) a + S1.size a ≤ S2.size a := by revert s; decide
theorem inb_s82 (nt : Fin 8) (s : Fin 2) : ∀ a, (![nt.val, s.val] : Fin 2 → Nat) a + S1x1.size a ≤ S8x2.size a := by
  revert nt s; decide

/-- The offset of the `k`-th block of rows of `O` that the body reads. -/
def oOff (d : Dev nD) : Fin 8 → Fin 3 → Nat
  | 0 => k0_off1 d 0#32
  | 1 => k0_off2 d 0#32 0#32
  | 2 => k0_off2 d 1#32 0#32
  | 3 => k0_off1 d 256#32
  | 4 => k0_off2 d 2#32 0#32
  | 5 => k0_off2 d 0#32 256#32
  | 6 => k0_off2 d 1#32 256#32
  | 7 => k0_off2 d 2#32 256#32

theorem oOff_inb (d : Dev nD) (k : Fin 8) : ∀ a, oOff d k a + S2x256x1024.size a ≤ S2x2048x1024.size a := by
  fin_cases k
  · exact k0_off1_inb d 0
  · exact k0_off2_inb d 0 0
  · exact k0_off2_inb d 1 0
  · exact k0_off1_inb d 1
  · exact k0_off2_inb d 2 0
  · exact k0_off2_inb d 0 1
  · exact k0_off2_inb d 1 1
  · exact k0_off2_inb d 2 1

abbrev rW (nt : Fin 8) : Rect S1024x4096 := Rect.unit (s := S1024x4096) ![0, 512 * nt.val] S1024x512.size (inb_w nt)
abbrev rSend (nt : Fin 8) : Rect S8x2x256x512 := Rect.unit (s := S8x2x256x512) ![nt.val, 0, 0, 0] S1x2x256x512.size (inb_send nt)
abbrev rRecv (nt : Fin 8) (s : Fin 2) : Rect S8x2x2x256x512 :=
  Rect.unit (s := S8x2x2x256x512) ![nt.val, s.val, 0, 0, 0] S1x1x2x256x512.size (inb_recv nt s)
abbrev rStage (s : Fin 2) : Rect S2x2x256x512 := Rect.unit (s := S2x2x256x512) ![s.val, 0, 0, 0] S1x2x256x512.size (inb_stage s)
abbrev rOst (s : Fin 2) : Rect S2x2x256x1024 := Rect.unit (s := S2x2x256x1024) ![s.val, 0, 0, 0] S1x2x256x1024.size (inb_ost s)
abbrev rO (d : Dev nD) (k : Fin 8) : Rect S2x2048x1024 := Rect.unit (s := S2x2048x1024) (oOff d k) S2x256x1024.size (oOff_inb d k)
abbrev rOut (sub : Fin 2) (nt : Fin 8) : Rect S2x512x4096 :=
  Rect.unit (s := S2x512x4096) ![0, 256 * sub.val, 512 * nt.val] S2x256x512.size (inb_out sub nt)

/-- The buffers, whole. -/
abbrev mO : Memref sig .tc .hbm S2x2048x1024 .bf16 := Memref.whole main_v1
abbrev mW : Memref sig .tc .vmem S1024x4096 .bf16 := Memref.whole cc0_stg0_0
abbrev mOut : Memref sig .tc .hbm S2x512x4096 .f32 := Memref.whole main_v2
abbrev mSend : Memref sig .tc .vmem S8x2x256x512 .bf16 := Memref.whole cc0_scratch0
abbrev mRecv : Memref sig .tc .vmem S8x2x2x256x512 .bf16 := Memref.whole cc0_scratch1
abbrev mStage : Memref sig .tc .vmem S2x2x256x512 .f32 := Memref.whole cc0_scratch2
abbrev mOst : Memref sig .tc .vmem S2x2x256x1024 .bf16 := Memref.whole cc0_scratch3

/-- The slots. -/
abbrev send (nt : Fin 8) : Memref sig .tc .vmem S2x256x512 .bf16 :=
  (mSend.slice (rSend nt) (fun _ => rfl)).squeeze S2x256x512 squeezes_S1x2x256x512_S2x256x512
abbrev recv (nt : Fin 8) (s : Fin 2) : Memref sig .tc .vmem S2x256x512 .bf16 :=
  (mRecv.slice (rRecv nt s) (fun _ => rfl)).squeeze S2x256x512 squeezes_S1x1x2x256x512_S2x256x512
abbrev stage (s : Fin 2) : Memref sig .tc .vmem S2x256x512 .f32 :=
  (mStage.slice (rStage s) (fun _ => rfl)).squeeze S2x256x512 squeezes_S1x2x256x512_S2x256x512
abbrev ost (s : Fin 2) : Memref sig .tc .vmem S2x256x1024 .bf16 :=
  (mOst.slice (rOst s) (fun _ => rfl)).squeeze S2x256x1024 squeezes_S1x2x256x1024_S2x256x1024
abbrev oSrc (d : Dev nD) (k : Fin 8) : Memref sig .tc .hbm S2x256x1024 .bf16 := mO.slice (rO d k) (fun _ => rfl)
abbrev outDst (sub : Fin 2) (nt : Fin 8) : Memref sig .tc .hbm S2x256x512 .f32 := mOut.slice (rOut sub nt) (fun _ => rfl)

/-- The semaphores. -/
abbrev sendSem (nt : Fin 8) : DmaSem sig :=
  ((cc0_scratch4.slice (Rect.unit (s := S8) ![nt.val] S1.size (inb_s8 nt))).squeeze S_ squeezes_S1_S_).sem
abbrev recvSem (nt : Fin 8) (s : Fin 2) : DmaSem sig :=
  ((cc0_scratch5.slice (Rect.unit (s := S8x2) ![nt.val, s.val] S1x1.size (inb_s82 nt s))).squeeze S_ squeezes_S1x1_S_).sem
abbrev outSem (s : Fin 2) : DmaSem sig :=
  ((cc0_scratch6.slice (Rect.unit (s := S2) ![s.val] S1.size (inb_s2 s))).squeeze S_ squeezes_S1_S_).sem
abbrev oSem (s : Fin 2) : DmaSem sig :=
  ((cc0_scratch7.slice (Rect.unit (s := S2) ![s.val] S1.size (inb_s2 s))).squeeze S_ squeezes_S1_S_).sem
abbrev credSem (nt : Fin 8) : Sem sig :=
  ((cc0_scratch8.slice (Rect.unit (s := S8) ![nt.val] S1.size (inb_s8 nt))).squeeze S_ squeezes_S1_S_).sem

/-! ## What a transfer's and a store's evidence is -/

theorem exact_send (nt : Fin 8) : (send nt).view.WordExact :=
  ((Memref.isWhole_whole cc0_scratch0).wordExact_slice rfl _ (by revert nt; decide)).reshape _ _
theorem exact_recv (nt : Fin 8) (s : Fin 2) : (recv nt s).view.WordExact :=
  ((Memref.isWhole_whole cc0_scratch1).wordExact_slice rfl _ (by revert nt s; decide)).reshape _ _
theorem exact_ost (s : Fin 2) : (ost s).view.WordExact :=
  ((Memref.isWhole_whole cc0_scratch3).wordExact_slice rfl _ (by revert s; decide)).reshape _ _
theorem exact_o (d : Dev nD) (k : Fin 8) : (oSrc d k).view.WordExact := by
  refine (Memref.isWhole_whole main_v1).wordExact_slice rfl _ ?_
  fin_cases k
  · exact k0_off1_wordsbf16 d 0
  · exact k0_off2_wordsbf16 d 0 0
  · exact k0_off2_wordsbf16 d 1 0
  · exact k0_off1_wordsbf16 d 1
  · exact k0_off2_wordsbf16 d 2 0
  · exact k0_off2_wordsbf16 d 0 1
  · exact k0_off2_wordsbf16 d 1 1
  · exact k0_off2_wordsbf16 d 2 1
theorem exact_stage (s : Fin 2) : (stage s).view.WordExact := (View.wordExact_bits rfl).reshape _ _
theorem exact_out (sub : Fin 2) (nt : Fin 8) : (outDst sub nt).view.WordExact := View.wordExact_bits rfl
theorem stores_send (nt : Fin 8) : (mSend.access (rSend nt)).Stores (Finset.univ) :=
  View.stores_vmem h_S1x2x256x512 ((Memref.isWhole_whole cc0_scratch0).storeExact_slice rfl _ (by revert nt; decide)) (fun _ => rfl)
theorem stores_stage (s : Fin 2) : (mStage.access (rStage s)).Stores (Finset.univ) :=
  View.stores_vmem_bits_univ h_S1x2x256x512 rfl

/-! ## Values -/

/-- A block of rows of `O` times a tile of `Wo`. -/
def dotV (o : FVec F S2x256x1024 .bf16) (w : Vec F S1024x512 .bf16) : FVec F S2x256x512 .f32 :=
  matmul dot_S2x256x1024_S1024x512_S2x256x512_2_0_01_1_n_n none o (shapeCast S1024x512 w shapeCasts_S1024x512_S1024x512)
    (constant S2x256x512 .f32 0x00000000#32)

/-- The product with what came in from the device before. -/
def totV (o : FVec F S2x256x1024 .bf16) (w : Vec F S1024x512 .bf16) (r : FVec F S2x256x512 .bf16) : FVec F S2x256x512 .f32 :=
  addf (dotV o w) (extf .f32 r bitsLt_bf16_f32)

/-- Rounded to what is sent. -/
def roundV (x : FVec F S2x256x512 .f32) : FVec F S2x256x512 .bf16 := truncf .bf16 x bitsLt_bf16_f32

/-! ## Steps -/

abbrev P : Type → Type 1 := Prog (TpuEff nD τ sig (Elt F) Λ₀ .tc)

/-- The neighbours' numbers as the body computes them. -/
abbrev nxtD (d : Dev nD) : Dev nD := ⟨k0_dev2 d, k0_dev2_lt d⟩
abbrev prvD (d : Dev nD) : Dev nD := ⟨k0_dev1 d, k0_dev1_lt d⟩

abbrev bar : Sem sig := (SemArray.scalar (sig.barrier 0 rfl) : Sems sig S_).sem

/-- Start reading block `k` into its staging slot. -/
def oStart (d : Dev nD) (k : Fin 8) (s : Fin 2) : P (F := F) PUnit :=
  Prog.lift (.enqueueDma (oSrc d k) (.here (ost s)) (.dma (oSem s)) (exact_o d k) (exact_ost s) ⟨Or.inl rfl, trivial⟩)

/-- Wait for block `k` and load it. -/
def oLoad (d : Dev nD) (k : Fin 8) (s : Fin 2) : P (F := F) (FVec F S2x256x1024 .bf16) := do
  Prog.lift (.waitDma2 (oSem s) (oSrc d k) (ost s) (exact_o d k) (exact_ost s))
  let v : Vec F S1x2x256x1024 .bf16 ← Prog.lift (.load mOst (rOst s).toLoadRect (View.loadsAt_vmem h_S1x2x256x1024))
  pure (shapeCast S2x256x1024 v shapeCasts_S1x2x256x1024_S2x256x1024)

/-- Load tile `nt` of `Wo`. -/
def wLoad (nt : Fin 8) : P (F := F) (Vec F S1024x512 .bf16) :=
  Prog.lift (.load mW (rW nt).toLoadRect (View.loadsAt_vmem h_S1024x512))

def sendWait (nt : Fin 8) (s : Fin 2) : P (F := F) PUnit :=
  Prog.lift (.waitDma2 (sendSem nt) (recv nt s) (send nt) (exact_recv nt s) (exact_send nt))

def recvWait (nt : Fin 8) (s : Fin 2) : P (F := F) PUnit :=
  Prog.lift (.waitDma2 (recvSem nt s) (send nt) (recv nt s) (exact_send nt) (exact_recv nt s))

def recvLoad (nt : Fin 8) (s : Fin 2) : P (F := F) (FVec F S2x256x512 .bf16) := do
  let v : Vec F S1x1x2x256x512 .bf16 ← Prog.lift (.load mRecv (rRecv nt s).toLoadRect (View.loadsAt_vmem h_S1x1x2x256x512))
  pure (shapeCast S2x256x512 v shapeCasts_S1x1x2x256x512_S2x256x512)

/-- Put a rounded tile in the send slot. -/
def sendStore (nt : Fin 8) (x : FVec F S2x256x512 .bf16) : P (F := F) PUnit := do
  let _v : Vec F S1x2x256x512 .bf16 ← Prog.lift (.load mSend (rSend nt).toLoadRect (View.loadsAt_vmem h_S1x2x256x512))
  Prog.lift (.store mSend (rSend nt) (shapeCast S1x2x256x512 x shapeCasts_S2x256x512_S1x2x256x512 : FVec F S1x2x256x512 .bf16) Finset.univ
    (stores_send nt) (.inl rfl))

/-- Send the slot to the next device's receive slot `s`. -/
def sendStart (d : Dev nD) (nt : Fin 8) (s : Fin 2) : P (F := F) PUnit :=
  Prog.lift (.enqueueDma (send nt) (.remote (Dev.tc (nxtD d)) (recv nt s) (.dma (sendSem nt))) (.dma (recvSem nt s))
    (exact_send nt) (exact_recv nt s) ⟨⟨rfl, Or.inl rfl⟩, trivial⟩)

def credSignal (d : Dev nD) (nt : Fin 8) : P (F := F) PUnit := semSignalWord (prvD d) (credSem nt) 1#32
def credWait (nt : Fin 8) : P (F := F) PUnit := semWaitWord (credSem nt) 1#32

/-- Put a finished tile in output staging slot `s`. -/
def outStore (s : Fin 2) (x : FVec F S2x256x512 .f32) : P (F := F) PUnit := do
  let _v : Vec F S1x2x256x512 .f32 ← Prog.lift (.load mStage (rStage s).toLoadRect (View.loadsAt_vmem h_S1x2x256x512))
  Prog.lift (.store mStage (rStage s) (shapeCast S1x2x256x512 x shapeCasts_S2x256x512_S1x2x256x512 : FVec F S1x2x256x512 .f32) Finset.univ
    (stores_stage s) (.inl rfl))

def outStart (sub : Fin 2) (nt : Fin 8) (s : Fin 2) : P (F := F) PUnit :=
  Prog.lift (.enqueueDma (stage s) (.here (outDst sub nt)) (.dma (outSem s)) (exact_stage s) (exact_out sub nt) ⟨Or.inl rfl, trivial⟩)

def outWait (sub : Fin 2) (nt : Fin 8) (s : Fin 2) : P (F := F) PUnit :=
  Prog.lift (.waitDma2 (outSem s) (stage s) (outDst sub nt) (exact_stage s) (exact_out sub nt))

def when (b : Bool) (p : P (F := F) PUnit) : P (F := F) PUnit := bif b then p else pure ⟨⟩

/-- The slot of transfer `t`. -/
abbrev par (t : ℕ) : Fin 2 := ⟨t % 2, Nat.mod_lt _ (by decide)⟩

/-- First device of a chunk's way round: compute tile `nt`, send it as transfer `t`. -/
def seed (d : Dev nD) (t : ℕ) (o : FVec F S2x256x1024 .bf16) (nt : Fin 8) : P (F := F) PUnit := do
  let w ← wLoad nt
  when (Nat.ble 2 t) (credWait nt)
  when (Nat.ble 1 t) (sendWait nt (par (t + 1)))
  sendStore nt (roundV (dotV o w))
  sendStart d nt (par t)

/-- A device on the way: add transfer `t` to the tile, send the sum as transfer `t + 1`. -/
def fwd (d : Dev nD) (t : ℕ) (o : FVec F S2x256x1024 .bf16) (nt : Fin 8) : P (F := F) PUnit := do
  let w ← wLoad nt
  recvWait nt (par t)
  let r ← recvLoad nt (par t)
  when (Nat.ble t 3) (credSignal d nt)
  when (Nat.ble 1 t) (credWait nt)
  sendWait nt (par t)
  sendStore nt (roundV (totV o w r))
  sendStart d nt (par (t + 1))

/-- The chunk's own device: add transfer `t` to the tile, write the sum out. -/
def fin (d : Dev nD) (t : ℕ) (sub : Fin 2) (o : FVec F S2x256x1024 .bf16) (nt : Fin 8) : P (F := F) PUnit := do
  let w ← wLoad nt
  recvWait nt (par t)
  let r ← recvLoad nt (par t)
  when (Nat.ble t 3) (credSignal d nt)
  when (Nat.ble 2 (8 * sub.val + nt.val)) (outWait sub nt (par nt.val))
  outStore (par nt.val) (totV o w r)
  outStart sub nt (par nt.val)

/-- One step per tile, in order. -/
def tiles (f : Fin 8 → P (F := F) PUnit) : P (F := F) PUnit := do
  f 0; f 1; f 2; f 3; f 4; f 5; f 6; f 7

/-- Load block `k` and start reading the block two further. -/
def oNext (d : Dev nD) (k : Fin 8) (k' : Fin 8) : P (F := F) (FVec F S2x256x1024 .bf16) := do
  let o ← oLoad d k (par k.val)
  oStart d k' (par k.val)
  pure o

/-- The body. -/
def body : P (F := F) PUnit := do
  let d : Dev nD ← Prog.lift .deviceId
  oStart d 0 0
  oStart d 1 1
  semSignalWord (prvD d) bar 1#32
  semSignalWord (nxtD d) bar 1#32
  semWaitWord bar 2#32
  let o0 ← oNext d 0 2
  tiles (seed d 0 o0)
  let o1 ← oNext d 1 3
  tiles (fwd d 0 o1)
  let o2 ← oNext d 2 4
  tiles (fwd d 1 o2)
  let o3 ← oNext d 3 5
  tiles (seed d 3 o3)
  let o4 ← oNext d 4 6
  tiles (fin d 2 0 o4)
  let o5 ← oNext d 5 7
  tiles (fwd d 3 o5)
  let o6 ← oLoad d 6 0
  tiles (fwd d 4 o6)
  let o7 ← oLoad d 7 1
  tiles (fin d 5 1 o7)
  tiles (fun nt => sendWait nt 1)
  outWait 0 0 0
  outWait 0 1 1

set_option maxRecDepth 65536 in
theorem body_eq :
    cc0_body (F := F) (Memref.whole main_v1) (Memref.isWhole_whole _) (Memref.whole cc0_stg0_0) (Memref.isWhole_whole _)
      (Memref.whole main_v2) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8
    = body (F := F) := by sl_kernel_rfl

end Cert.KernelIdeal.Steps
-- ==== Proof.Rules.lean ====
/-
  The logic the run is proved in, and a load from and a store to one slot of a buffer, the slot
  owned as the squeezed slice the transfers name.
-/
module

public import proofs.«01_k».proof.Proof.Prog
public import Idealize.ShloMosaic.Lib.Rounds
public import Idealize.ShloMosaic.Lib.Release
public import Idealize.ShloMosaic.Lib.Memref
public import Idealize.ShloMosaic.Lib.Pipeline.Value
public import Idealize.ShloMosaic.Lib.Pipeline.RegionTalk
public import Idealize.ShloMosaic.Harness.Basic

@[expose] public section

noncomputable section

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

abbrev 𝒱₀ : Variants := Variants.none

/-- A receive slot: its device, its tile, which of the two. -/
abbrev Key : Type := Dev nD × Fin 8 × Fin 2

/-- The rounds of the staging cells, the rounds of the kernel's own cells, the receive slots' counts. -/
abbrev UU : Type := UR sig nD τ × (URounds (GSem nD τ sig) (Fin 4) × USlots Key)

local notation "𝕄" => MT nD τ sig ℕ (Elt F) ℕ UU ℕ

abbrev EP : Emb (UR sig nD τ) (MT nD τ sig ℕ (Elt F) ℕ UU ℕ) := embL
def ER : Emb (URounds (GSem nD τ sig) (Fin 4)) (MT nD τ sig ℕ (Elt F) ℕ UU ℕ) :=
  (Emb.inl : Emb (URounds (GSem nD τ sig) (Fin 4)) (URounds (GSem nD τ sig) (Fin 4) × USlots Key)).trans embR
def ES : Emb (USlots Key) (MT nD τ sig ℕ (Elt F) ℕ UU ℕ) :=
  (Emb.inr : Emb (USlots Key) (URounds (GSem nD τ sig) (Fin 4) × USlots Key)).trans embR

instance ER_landsIn : (ER (F := F)).LandsIn (upEmb : UEmb _ 𝕄) := by unfold ER embR; infer_instance
instance ES_landsIn : (ES (F := F)).LandsIn (upEmb : UEmb _ 𝕄) := by unfold ES embR; infer_instance

/-- A program run by device `c`'s core. -/
abbrev run (c : Dev nD) {α : Type} (p : P (F := F) α) (Kt : α → sProp 𝕄) : sProp 𝕄 :=
  wp frame (wpE (defs₀ (F := F)) 𝒱₀ (c : Thread nD τ) none) Set.univ p Kt

/-- The elements of a memref, at any contents. -/
abbrev hole (c : Dev nD) {sp : Space} {s : Shape} {e : EltTy} (m : Memref sig .tc sp s e) : sProp 𝕄 :=
  slot (m.view.loc (c : Thread nD τ)) m.view.set

/-- The elements of a memref, at contents it reads as `X`. -/
abbrev ownd (c : Dev nD) {sp : Space} {s : Shape} {e : EltTy} (m : Memref sig .tc sp s e) (X : s.Idx → Elt F e) : sProp 𝕄 :=
  owns (c : Thread nD τ) m fullShare X

theorem ownd_intro (c : Dev nD) {sp : Space} {s : Shape} {e : EltTy} (m : Memref sig .tc sp s e) {X : s.Idx → Elt F e}
    (f : Buf (Elt F) (m.view.loc (c : Thread nD τ))) (h : m.view.read (Elt F) f = X) :
    (m.view.loc (c : Thread nD τ) ↦[m.view.set]{fullShare} f) ⊢ (ownd c m X : sProp 𝕄) := by
  subst h; exact owns_intro _ _ _ _

theorem ownd_elim (c : Dev nD) {sp : Space} {s : Shape} {e : EltTy} (m : Memref sig .tc sp s e) (X : s.Idx → Elt F e) :
    (ownd c m X : sProp 𝕄) ⊢ iprop(∃ f, ⌜m.view.read (Elt F) f = X⌝ ∗ (m.view.loc (c : Thread nD τ) ↦[m.view.set]{fullShare} f)) :=
  .rfl

theorem ownd_hole (c : Dev nD) {sp : Space} {s : Shape} {e : EltTy} (m : Memref sig .tc sp s e) (X : s.Idx → Elt F e) :
    ownd c m X ⊢ (hole c m : sProp 𝕄) := by
  unfold ownd owns hole slot
  iintro ⟨%f, -, H⟩
  iexists f; iexact H

section Slots

variable (c : Dev nD) {cs : CoreSpace} {s s' : Shape} {e : EltTy} (m : Memref sig .tc cs s e) (r : Rect s)
  (hr : ∀ a, r.stride a = 1) (hq : r.shape.Squeezes s')

/-- A load of one slot, the slot owned at `X`: what is loaded is `X` in the slice's shape. -/
theorem load_slot (hc : r.shape.ShapeCasts s') {hl : m.view.LoadsAt r.toLoadRect} {q : PosShare TreeShare} {X : s'.Idx → Elt F e}
    {Kt : (r.shape.Idx → Elt F e) → sProp 𝕄} :
    owns (c : Thread nD τ) ((m.slice r hr).squeeze s' hq) q X
      ⊢ iprop((∀ v : r.shape.Idx → Elt F e, ⌜shapeCast s' v hc = X⌝ -∗ owns (c : Thread nD τ) ((m.slice r hr).squeeze s' hq) q X -∗ Kt v)
          -∗ run c (Prog.lift (.load m r.toLoadRect hl)) Kt) := by
  have hset : ((m.slice r hr).squeeze s' hq).view.set = (m.access r).set := View.set_reshape _ _
  unfold owns
  iintro ⟨%f, %hf, H⟩ Hk
  rw [hset]
  iapply (wp_load_rect (defs := defs₀ (F := F)) 𝒱₀ (c : Thread nD τ) none (Γ := []) Set.univ (m := m) (r := r) (S := (m.access r).set) (q := q) (f := f) (Finset.Subset.refl _)) $$ [H]
  · iexact H
  iintro H
  rw [wp_ret]
  imodintro
  ihave Hk := Hk $$ %((m.access r).read (Elt F) f)
  iapply Hk
  · ipureintro; exact hf
  iexists f
  isplitr; · ipureintro; exact hf
  iexact H

/-- A store of all of one slot. -/
theorem store_slot (hc : s'.ShapeCasts r.shape) {hx : (m.access r).Stores Finset.univ} {hm : (Finset.univ : Finset r.shape.Idx) = Finset.univ ∨ ∀ a, r.stride a = 1}
    {Y : s'.Idx → Elt F e} {Kt : PUnit → sProp 𝕄} :
    hole c ((m.slice r hr).squeeze s' hq)
      ⊢ iprop((owns (c : Thread nD τ) ((m.slice r hr).squeeze s' hq) fullShare Y -∗ Kt ⟨⟩)
          -∗ run c (Prog.lift (.store m r (shapeCast r.shape Y hc) Finset.univ hx hm)) Kt) := by
  have hset : ((m.slice r hr).squeeze s' hq).view.set = (m.access r).set := View.set_reshape _ _
  unfold owns hole slot
  iintro ⟨%f, H⟩ Hk
  rw [hset]
  iapply (wp_store (defs := defs₀ (F := F)) 𝒱₀ (c : Thread nD τ) none (Γ := []) Set.univ (m := m) (r := r) (S := (m.access r).set) (f := f) (Finset.Subset.refl _)) $$ [H]
  · iexact H
  iintro H
  rw [wp_ret]
  imodintro
  iapply Hk
  iexists ((m.access r).write (Elt F) f (shapeCast r.shape Y hc) Finset.univ)
  isplitr
  · ipureintro
    have h : shapeCast s' ((m.access r).read (Elt F) ((m.access r).write (Elt F) f (shapeCast r.shape Y hc) Finset.univ)) hc.symm = Y := by
      rw [View.read_write_univ, shapeCast_shapeCast]
    exact h
  iexact H

end Slots

end Cert.KernelIdeal.Steps
-- ==== Proof.Protocol.lean ====
/-
  The protocol between the devices: every semaphore's rounds — who pays, how much, and what each
  payment hands over — what each device owes the others, and the levels that order the waits.
-/
module

public import proofs.«01_k».proof.Proof.Rules
public import Mathlib.Algebra.BigOperators.Intervals
public import Mathlib.Tactic.IntervalCases

@[expose] public section

noncomputable section

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## The ring -/

theorem nxt_prv (c : Dev nD) : nxtD (prvD c) = c := by revert c; decide
theorem prv_nxt (c : Dev nD) : prvD (nxtD c) = c := by revert c; decide

/-- A turn of the ring. -/
def ring : Dev nD ≃ Dev nD := ⟨nxtD, prvD, prv_nxt, nxt_prv⟩

/-! ## The cells -/

/-- The semaphores of one device. -/
inductive Cl
  | bar
  | send (nt : Fin 8)
  | recv (nt : Fin 8) (s : Fin 2)
  | out (s : Fin 2)
  | o (s : Fin 2)
  | cred (nt : Fin 8)
  deriving DecidableEq

/-- The same as a sum of the pools. -/
def clEquiv : (Unit ⊕ Fin 8 ⊕ (Fin 8 × Fin 2) ⊕ Fin 2 ⊕ Fin 2 ⊕ Fin 8) ≃ Cl where
  toFun
    | .inl _ => .bar
    | .inr (.inl nt) => .send nt
    | .inr (.inr (.inl x)) => .recv x.1 x.2
    | .inr (.inr (.inr (.inl s))) => .out s
    | .inr (.inr (.inr (.inr (.inl s)))) => .o s
    | .inr (.inr (.inr (.inr (.inr nt)))) => .cred nt
  invFun
    | .bar => .inl ()
    | .send nt => .inr (.inl nt)
    | .recv nt s => .inr (.inr (.inl (nt, s)))
    | .out s => .inr (.inr (.inr (.inl s)))
    | .o s => .inr (.inr (.inr (.inr (.inl s))))
    | .cred nt => .inr (.inr (.inr (.inr (.inr nt))))
  left_inv x := by rcases x with _ | _ | _ | _ | _ | _ <;> rfl
  right_inv k := by cases k <;> rfl

instance : Fintype Cl := Fintype.ofEquiv _ clEquiv

def loc : Cl → SemLoc sig
  | .bar => .reg bar
  | .send nt => .dma (sendSem nt)
  | .recv nt s => .dma (recvSem nt s)
  | .out s => .dma (outSem s)
  | .o s => .dma (oSem s)
  | .cred nt => .reg (credSem nt)

theorem loc_inj : Function.Injective loc := by unfold Function.Injective; decide +kernel

def cell (c : Dev nD) (k : Cl) : GSem nD τ sig := ((c : Thread nD τ), loc k)

/-- Which of a device's semaphores a cell is. -/
def kind (g : GSem nD τ sig) : Option Cl := if g.1.2 = .tc then Function.partialInv loc g.2 else none

@[simp] theorem kind_cell (c : Dev nD) (k : Cl) : kind (cell c k) = some k := by
  unfold kind cell; rw [if_pos rfl]; exact Function.partialInv_left loc_inj k

theorem cell_inj {c c' : Dev nD} {k k' : Cl} (h : cell c k = cell c' k') : c = c' ∧ k = k' :=
  ⟨congrArg (fun g : GSem nD τ sig => g.1.1) h, loc_inj (congrArg (fun g : GSem nD τ sig => g.2) h)⟩

/-! ## What a transfer carries -/

variable (A : Dev nD → S2x2048x1024.Idx → Elt F .bf16) (B : Dev nD → S1024x4096.Idx → Elt F .bf16)

/-- Block `k` of the rows of a device's `O`, and tile `nt` of its `Wo`. -/
def oBlk (c : Dev nD) (k : Fin 8) : FVec F S2x256x1024 .bf16 := fun i => A c ((rO c k).emb i)
def wTile (c : Dev nD) (nt : Fin 8) : Vec F S1024x512 .bf16 := fun i => B c ((rW nt).emb i)

/-- The block of `O` that transfer `t` adds. -/
def blkOf : ℕ → Fin 8
  | 0 => 0 | 1 => 1 | 2 => 2 | 3 => 3 | 4 => 5 | _ => 6

/-- What device `c` sends as transfer `t` of tile `nt`. -/
def sent : ℕ → Dev nD → Fin 8 → FVec F S2x256x512 .bf16
  | 0, c, nt => roundV (dotV (oBlk A c 0) (wTile B c nt))
  | t + 1, c, nt =>
    if t = 2 then roundV (dotV (oBlk A c 3) (wTile B c nt))
    else roundV (totV (oBlk A c (blkOf (t + 1))) (wTile B c nt) (sent t (prvD c) nt))

/-- Device `c`'s own rows, finished: half `sub`, tile `nt`. -/
def res (c : Dev nD) (sub : Fin 2) (nt : Fin 8) : FVec F S2x256x512 .f32 :=
  if sub = 0 then totV (oBlk A c 4) (wTile B c nt) (sent A B 2 (prvD c) nt)
  else totV (oBlk A c 7) (wTile B c nt) (sent A B 5 (prvD c) nt)

/-! ## The rounds -/

/-- Use `r` of slot `s` is transfer number `2 * r + s`. -/
abbrev num8 (k : ℕ) : Fin 8 := ⟨k % 8, Nat.mod_lt _ (by decide)⟩
abbrev sub2 (k : ℕ) : Fin 2 := ⟨k / 8 % 2, Nat.mod_lt _ (by decide)⟩

/-- What a transfer counts. -/
def nS : ℕ := (send 0).view.dmaCredit
def nOut : ℕ := (outDst 0 0).view.dmaCredit
def nO : ℕ := (ost 0).view.dmaCredit

theorem nS_pos : 0 < nS := View.dmaCredit_pos _ (by decide)
theorem nOut_pos : 0 < nOut := View.dmaCredit_pos _ (by decide)
theorem nO_pos : 0 < nO := View.dmaCredit_pos _ (by decide)

/-- Device `d`'s receive slot of tile `nt` is free for transfer `t`, and its cell's round is open. -/
def fact (d : Dev nD) (nt : Fin 8) (t : ℕ) : sProp 𝕄 :=
  iprop(released ES (d, nt, par t) (t / 2 + 1) ∗ reached ER (cell d (.recv nt (par t))) (t / 2))

instance fact_persistent (d : Dev nD) (nt : Fin 8) (t : ℕ) : BI.Persistent (fact (F := F) d nt t) := by
  unfold fact; infer_instance

/-- The same for the first `n` transfers. -/
def facts (d : Dev nD) (nt : Fin 8) (n : ℕ) : sProp 𝕄 := bigSep (Finset.range n) (fun t => fact d nt t)

instance facts_persistent (d : Dev nD) (nt : Fin 8) (n : ℕ) : BI.Persistent (facts (F := F) d nt n) := by
  unfold facts; infer_instance

instance facts_storable (d : Dev nD) (nt : Fin 8) (n : ℕ) : Storable (upEmb : UEmb _ 𝕄) (facts (F := F) d nt n) := by
  unfold facts fact; infer_instance

def dutiesK : Cl → ℕ → Finset (Fin 4)
  | .bar, r => if r < 1 then {0, 1} else ∅
  | .send _, r => if r < 6 then {0} else ∅
  | .recv _ _, r => if r < 3 then {0} else ∅
  | .out _, r => if r < 8 then {0} else ∅
  | .o _, r => if r < 4 then {0} else ∅
  | .cred _, r => if r < 1 then Finset.univ else ∅

/-- The rounds of a cell. -/
def roundsK : Cl → ℕ
  | .bar => 1 | .send _ => 6 | .recv _ _ => 3 | .out _ => 8 | .o _ => 4 | .cred _ => 1

theorem dutiesK_later (k : Cl) (r : ℕ) (h : roundsK k ≤ r) : dutiesK k r = ∅ := by
  cases k <;> exact if_neg (Nat.not_lt.mpr h)

def amountK : Cl → ℕ
  | .bar => 1 | .send _ => nS | .recv _ _ => nS | .out _ => nOut | .o _ => nO | .cred _ => 1

theorem amountK_pos (k : Cl) : 0 < amountK k := by
  cases k <;> first | exact Nat.one_pos | exact nS_pos | exact nOut_pos | exact nO_pos

def payK (c : Dev nD) : Cl → ℕ → Fin 4 → sProp 𝕄
  | .bar, _, d =>
    if d = 0 then bigSep Finset.univ (fun nt : Fin 8 => facts (nxtD c) nt 2)
    else bigSep Finset.univ (fun nt : Fin 8 => reached ER (cell (prvD c) (.cred nt)) 0)
  | .send nt, r, _ => ownd c (send nt) (sent A B r c nt)
  | .recv nt s, r, _ => ownd c (recv nt s) (sent A B (2 * r + s.val) (prvD c) nt)
  | .out s, r, _ =>
    iprop(ownd c (outDst (sub2 (2 * r + s.val)) (num8 (2 * r + s.val))) (res A B c (sub2 (2 * r + s.val)) (num8 (2 * r + s.val)))
      ∗ hole c (stage s))
  | .o s, r, _ =>
    iprop(ownd c (ost s) (oBlk A c (num8 (2 * r + s.val)))
      ∗ ownd c (oSrc c (num8 (2 * r + s.val))) (oBlk A c (num8 (2 * r + s.val))))
  | .cred nt, _, d => facts (nxtD c) nt (d.val + 3)

/-- The schedule of all the kernel's cells. -/
def Rd : Rounds.Schedule (GSem nD τ sig) (Fin 4) 𝕄 where
  duties g r := match kind g with | some k => dutiesK k r | none => ∅
  amount g _ _ := match kind g with | some k => amountK k | none => 1
  payload g r d := match kind g with | some k => payK A B g.1.1 k r d | none => iprop(emp)
  amount_pos g _ _ _ := by
    cases kind g with
    | none => exact Nat.one_pos
    | some k => exact amountK_pos k

instance payK_storable (c : Dev nD) (k : Cl) (r : ℕ) (d : Fin 4) : Storable (upEmb : UEmb _ 𝕄) (payK A B c k r d) := by
  cases k <;> dsimp only [payK] <;> (try split) <;> infer_instance

instance Rd_storable (g : GSem nD τ sig) (r : ℕ) (d : Fin 4) : Storable (upEmb : UEmb _ 𝕄) ((Rd A B).payload g r d) := by
  show Storable upEmb (match kind g with | some k => payK A B g.1.1 k r d | none => iprop(emp))
  split <;> infer_instance

section Cells
variable (c : Dev nD) (k : Cl) (r : ℕ)

theorem duties_cell : (Rd A B).duties (cell c k) r = dutiesK k r := by dsimp only [Rd]; rw [kind_cell]
theorem amount_cell (d : Fin 4) : (Rd A B).amount (cell c k) r d = amountK k := by dsimp only [Rd]; rw [kind_cell]
theorem payload_cell (d : Fin 4) : (Rd A B).payload (cell c k) r d = payK A B c k r d := by dsimp only [Rd]; rw [kind_cell]; rfl
theorem expect_cell : (Rd A B).expect (cell c k) r = (dutiesK k r).card * amountK k := by
  unfold Schedule.expect Schedule.amountOf
  rw [duties_cell, Finset.sum_congr rfl (fun d _ => amount_cell A B c k r d), Finset.sum_const, smul_eq_mul]
theorem duties_later : ∀ r, roundsK k ≤ r → (Rd A B).duties (cell c k) r = ∅ := fun r h => by
  rw [duties_cell, dutiesK_later k r h]

/-- A cell each of whose rounds is one payment. -/
theorem rest_one (h : dutiesK k r = {0}) :
    bigSep ((Rd A B).duties (cell c k) r \ ∅) (fun d => (Rd A B).payload (cell c k) r d) = payK A B c k r 0 := by
  rw [Finset.sdiff_empty, duties_cell, h, bigSep_singleton, payload_cell]
theorem expect_one (h : dutiesK k r = {0}) : (Rd A B).expect (cell c k) r = amountK k := by
  rw [expect_cell, h, Finset.card_singleton, one_mul]

end Cells

/-! ## Levels -/

def levK : Cl → ℕ → ℕ
  | .bar, _ => 1 | .recv _ _, t => 2 * t + 2 | .cred _, j => 2 * j + 3 | _, _ => 0

def L (g : GSem nD τ sig) : Finset ℕ := if g.1.2 = .tc then Finset.range 8 else ∅
def lv (g : GSem nD τ sig) (ι : ℕ) : ℕ := match kind g with | some k => levK k ι | none => 0

theorem L_of_ne (g : GSem nD τ sig) (h : g.1.2 ≠ .tc) : L g = ∅ := if_neg h
theorem L_tc (c : Dev nD) (sm : SemLoc sig) : L ((c : Thread nD τ), sm) = Finset.range 8 := if_pos rfl
theorem L_cell (c : Dev nD) (k : Cl) : L (cell c k) = Finset.range 8 := if_pos rfl
theorem lv_cell (c : Dev nD) (k : Cl) (ι : ℕ) : lv (cell c k) ι = levK k ι := by unfold lv; rw [kind_cell]

/-- Everything owed lies above level `b`. -/
def Above (b : ℕ) (O : CellTallies nD τ sig ℕ) : Prop := ∀ g ι, 0 < O g ι → ι ∈ L g ∧ b < lv g ι

theorem Above.zero (b : ℕ) : Above b 0 := fun _ _ h => absurd h (Nat.lt_irrefl 0)
theorem Above.mono {b b' : ℕ} {O : CellTallies nD τ sig ℕ} (h : Above b O) (hb : b' ≤ b) : Above b' O :=
  fun g ι hg => ⟨(h g ι hg).1, lt_of_le_of_lt hb (h g ι hg).2⟩
theorem Above.add {b : ℕ} {O O' : CellTallies nD τ sig ℕ} (h : Above b O) (h' : Above b O') : Above b (O + O') := fun g ι hg => by
  have hg : 0 < O g ι + O' g ι := hg
  rcases Nat.eq_zero_or_pos (O g ι) with h0 | h0
  · exact h' g ι (by omega)
  · exact h g ι h0
theorem Above.tally {b : ℕ} (c : Dev nD) (k : Cl) (ι n : ℕ) (hι : ι < 8) (hb : b < levK k ι) : Above b (tallyAt (cell c k) ι n) :=
  fun g u hg => by
    rw [tallyAt_apply] at hg
    by_cases h : g = cell c k ∧ u = ι
    · rw [h.1, h.2, L_cell, lv_cell]; exact ⟨Finset.mem_range.mpr hι, hb⟩
    · rw [if_neg h] at hg; exact absurd hg (Nat.lt_irrefl 0)

theorem mayWait (c : Dev nD) (k : Cl) (ι : ℕ) {O : CellTallies nD τ sig ℕ} (hι : ι < 8) (hO : Above (levK k ι) O) :
    (levAts L lv : sProp 𝕄) ⊢ MayWait (c : Thread nD τ) (loc k) ι O :=
  MayOwe.of_cut (L := L) (lev := lv) (levK k ι)
    (fun p hp => by rw [Finset.mem_singleton.mp hp, L_tc]; exact Finset.mem_range.mpr hι)
    (fun g u hg => (hO g u hg).1)
    (fun p hp => by rw [Finset.mem_singleton.mp hp]; exact le_of_eq (lv_cell c k ι))
    (fun g u hg => (hO g u hg).2)

/-! ## What a device owes -/

/-- Which transfer phase `p` of the body sends, -/
def sndOf : ℕ → Option ℕ
  | 0 => some 0 | 1 => some 1 | 2 => some 2 | 3 => some 3 | 5 => some 4 | 6 => some 5 | _ => none
/-- and which credit it gives. -/
def crdOf : ℕ → Option ℕ
  | 1 => some 0 | 2 => some 1 | 4 => some 2 | 5 => some 3 | _ => none

def owedSend (c : Dev nD) (nt : Fin 8) : Option ℕ → CellTallies nD τ sig ℕ
  | some t => tallyAt (cell (nxtD c) (.recv nt (par t))) t nS
  | none => 0
def owedCred (c : Dev nD) (nt : Fin 8) : Option ℕ → CellTallies nD τ sig ℕ
  | some j => tallyAt (cell (prvD c) (.cred nt)) j 1
  | none => 0

/-- What tile `i % 8` of phase `i / 8` pays. -/
def pay (c : Dev nD) (i : ℕ) : CellTallies nD τ sig ℕ :=
  owedSend c (num8 i) (sndOf (i / 8)) + owedCred c (num8 i) (crdOf (i / 8))

/-- What is owed from there on. -/
def rem (c : Dev nD) (i : ℕ) : CellTallies nD τ sig ℕ := ∑ j ∈ Finset.Ico i 64, pay c j

theorem rem_step (c : Dev nD) {i : ℕ} (h : i < 64) : rem c i = rem c (i + 1) + pay c i := by
  unfold rem; rw [Finset.sum_eq_sum_Ico_succ_bot h, add_comm]
theorem rem_end (c : Dev nD) : rem c 64 = 0 := by unfold rem; rw [Finset.Ico_self, Finset.sum_empty]

/-- A bound below everything phases `p, p + 1, …` pay. -/
def floor : ℕ → ℕ
  | 0 => 1 | 1 => 2 | 2 => 4 | 3 => 6 | 4 => 6 | 5 => 8 | 6 => 11 | _ => 12

theorem above_pay (c : Dev nD) (i p : ℕ) (hi : i < 64) (hp : p ≤ i / 8) : Above (floor p) (pay c i) := by
  have hq : i / 8 < 8 := by omega
  unfold pay
  generalize num8 i = nt
  generalize i / 8 = q at hp hq
  refine Above.add ?_ ?_
  · interval_cases q <;> first | exact Above.zero _ | (refine Above.tally _ _ _ _ (by decide) ?_; dsimp only [levK]; revert p; decide)
  · interval_cases q <;> first | exact Above.zero _ | (refine Above.tally _ _ _ _ (by decide) ?_; dsimp only [levK]; revert p; decide)

theorem above_rem (c : Dev nD) (i p : ℕ) (hp : p ≤ i / 8) : Above (floor p) (rem c i) := by
  unfold rem
  refine Finset.sum_induction _ (Above (floor p)) (fun _ _ => Above.add) (Above.zero _) fun j hj => ?_
  rw [Finset.mem_Ico] at hj
  exact above_pay c j p hj.2 (hp.trans (Nat.div_le_div_right hj.1))

/-- What a device owes when its body starts. -/
def owed₀ (c : Dev nD) : CellTallies nD τ sig ℕ :=
  rem c 0 + tallyAt (cell (nxtD c) .bar) 0 1 + tallyAt (cell (prvD c) .bar) 0 1

theorem above_owed₀ (c : Dev nD) : Above 0 (owed₀ c) :=
  ((above_rem c 0 0 le_rfl).mono (Nat.zero_le _)).add (Above.tally _ _ _ _ (by decide) (by decide)) |>.add
    (Above.tally _ _ _ _ (by decide) (by decide))

end Cert.KernelIdeal.Steps
-- ==== Proof.Ops.lean ====
/-
  One operation of the kernel at a time: what each wait, transfer, signal, load and store takes
  and gives, over the protocol's state.
-/
module

public import proofs.«01_k».proof.Proof.Protocol

@[expose] public section

noncomputable section

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (A : Dev nD → S2x2048x1024.Idx → Elt F .bf16) (B : Dev nD → S1024x4096.Idx → Elt F .bf16)
  (K : GSem nD τ sig → ℕ) (Kn : Key → ℕ)

/-! ## What every device knows -/

/-- The levels, every cell's invariant and every receive slot's. -/
def ctx : sProp 𝕄 :=
  iprop(levAts L lv ∗ bigSep Finset.univ (fun x : Dev nD × Cl => cellInv ER (Rd A B) (K (cell x.1 x.2)) (cell x.1 x.2))
    ∗ bigSep Finset.univ (fun k : Key => slotInv ES (Kn k) k (hole k.1 (recv k.2.1 k.2.2))))

instance ctx_persistent : BI.Persistent (ctx A B K Kn) := by unfold ctx; infer_instance

theorem ctx_lev : ctx A B K Kn ⊢ levAts L lv := by unfold ctx; iintro ⟨H, -, -⟩; iexact H
theorem ctx_cell (c : Dev nD) (k : Cl) : ctx A B K Kn ⊢ cellInv ER (Rd A B) (K (cell c k)) (cell c k) := by
  have h : bigSep Finset.univ (fun x : Dev nD × Cl => (cellInv ER (Rd A B) (K (cell x.1 x.2)) (cell x.1 x.2) : sProp 𝕄))
      ⊢ cellInv ER (Rd A B) (K (cell c k)) (cell c k) := bigSep_elim (Finset.mem_univ (c, k))
  unfold ctx
  iintro ⟨-, H, -⟩
  iapply h
  iexact H
theorem ctx_slot (k : Key) : ctx A B K Kn ⊢ slotInv ES (Kn k) k (hole k.1 (recv k.2.1 k.2.2)) := by
  have h : bigSep Finset.univ (fun k : Key => (slotInv ES (Kn k) k (hole k.1 (recv k.2.1 k.2.2)) : sProp 𝕄))
      ⊢ slotInv ES (Kn k) k (hole k.1 (recv k.2.1 k.2.2)) := bigSep_elim (Finset.mem_univ k)
  unfold ctx
  iintro ⟨-, -, H⟩
  iapply h
  iexact H

/-- A device's debts, whatever it waits for. -/
def ow (c : Dev nD) (O : CellTallies nD τ sig ℕ) : sProp 𝕄 := iprop(∃ W, owes (c : Thread nD τ) O W)

/-- A cell at round `r`, nothing of it taken. -/
abbrev at_ (c : Dev nD) (k : Cl) (r : ℕ) : sProp 𝕄 := iprop(atPos ER (cell c k) r ∅ 0 ∗ reached ER (cell c k) r)

variable {A B K Kn} {c : Dev nD}

theorem mayWait_of (k : Cl) (ι : ℕ) {O : CellTallies nD τ sig ℕ} (hι : ι < 8) (hO : Above (levK k ι) O) :
    ctx A B K Kn ⊢ MayWait (c : Thread nD τ) (loc k) ι O := (ctx_lev A B K Kn).trans (mayWait c k ι hι hO)

/-! ## Waits for a transfer -/

/-- A wait for round `r` of a cell each of whose rounds is one transfer. -/
theorem wait_one (k : Cl) (r ι : ℕ) {sem : DmaSem sig} (hloc : loc k = .dma sem) {sp sp' : Space} {s : Shape} {e : EltTy}
    {src : Memref sig .tc sp s e} {dst : Memref sig .tc sp' s e} {hs : src.view.WordExact} {hd : dst.view.WordExact}
    (hN : dst.view.dmaCredit = amountK k) (hr : dutiesK k r = {0}) (hι : ι < 8) {O : CellTallies nD τ sig ℕ}
    (hO : Above (levK k ι) O) {Kt : PUnit → sProp 𝕄} :
    iprop(ctx A B K Kn ∗ cred (tallyAt (cell c k) ι (amountK k)) ∗ ow c O ∗ atPos ER (cell c k) r ∅ 0)
      ⊢ iprop(((ow c O ∗ at_ c k (r + 1) ∗ payK A B c k r 0) -∗ Kt ⟨⟩)
          -∗ run c (Prog.lift (.waitDma2 sem src dst hs hd)) Kt) := by
  have hcell : cell c k = ((c : Thread nD τ), SemLoc.dma sem) := by unfold cell; rw [hloc]
  have hsem : SemLoc.dma sem = loc k := hloc.symm
  unfold ow
  iintro ⟨#Hctx, Hc, ⟨%W, HO⟩, Hat⟩ Hk
  rw [hcell]
  iapply (Rounds.wp_wait_rest_token 𝒱₀ ER (Rd A B) (c : Thread nD τ) none (κ := K (cell c k)) (k := Prog.ret)
      (wpE_waitDma2_eq (src := src) (dst := dst) 𝒱₀ (c : Thread nD τ) none Set.univ) (Set.mem_univ _) ι (O := O) (W := W) (R := r) (m := 0) (T := ∅)
      ((Nat.zero_add _).trans (hN.trans (by rw [← hcell]; exact (expect_one A B c k r hr).symm)))) $$ [Hc HO Hat]
  · isplitr
    · rw [← hcell]; iapply (ctx_cell A B K Kn c k); iexact Hctx
    isplitl [Hc]; · rw [hN]; iexact Hc
    isplitl [HO]; · iexact HO
    isplitr
    · rw [hsem]; iapply (mayWait_of k ι hι hO); iexact Hctx
    iexact Hat
  iintro ⟨HO, Hat, Hr, Hpay⟩
  rw [wp_ret]
  imodintro
  iapply Hk
  isplitl [HO]; · iexists _; iexact HO
  isplitl [Hat Hr]
  · unfold at_; rw [hcell]
    isplitl [Hat]; · iexact Hat
    iexact Hr
  iapply (Entails.of_eq ((congrArg (fun g => bigSep ((Rd A B).duties g r \ ∅) (fun d => (Rd A B).payload g r d)) hcell.symm).trans
    (rest_one A B c k r hr)))
  iexact Hpay

/-! ## Transfers -/

/-- A transfer within the device, paying round `r` of a cell of its own. -/
theorem copy_one (k : Cl) (r ι : ℕ) {sem : DmaSem sig} (hloc : loc k = .dma sem) {sp sp' : Space} {s : Shape} {e : EltTy}
    {src : Memref sig .tc sp s e} {dst : Memref sig .tc sp' s e} {hs : src.view.WordExact} {hd : dst.view.WordExact}
    {ht : DmaTarget.Typed (nD := nD) sp (.dma sem) (.here (p := .tc) dst)}
    (hN : dst.view.dmaCredit = amountK k) (hr : dutiesK k r = {0}) {X : s.Idx → Elt F e}
    (hpay : iprop(ownd c dst X ∗ ownd c src X) ⊢ payK A B c k r 0) {Kt : PUnit → sProp 𝕄} :
    iprop(ctx A B K Kn ∗ ownd c src X ∗ hole c dst ∗ dutyTok ER (cell c k) r 0 ∗ reached ER (cell c k) r)
      ⊢ iprop((cred (tallyAt (cell c k) ι (amountK k)) -∗ Kt ⟨⟩)
          -∗ run c (Prog.lift (.enqueueDma src (.here dst) (.dma sem) hs hd ht)) Kt) := by
  have hcell : cell c k = ((c : Thread nD τ), SemLoc.dma sem) := by unfold cell; rw [hloc]
  iintro ⟨#Hctx, Hs, Hd, Ht, Hr⟩ Hk
  unfold hole slot
  icases Hd with ⟨%fd, Hd⟩
  ihave Hs := (ownd_elim c src X) $$ Hs
  icases Hs with ⟨%fs, %hfs, Hs⟩
  rw [hcell]
  iapply (Rounds.wp_copy_pointsTo 𝒱₀ ER (Rd A B) (c : Thread nD τ) none (src := src) (dst := dst) (sem := .dma sem) (q := fullShare)
      (k := Prog.ret) (fs := fs) (fd := fd) (r := r) (d := 0) (κ := K (cell c k))
      (by rw [← hcell, duties_cell, hr]; exact Finset.mem_singleton_self _) ι (amountK k) hN (by rw [← hcell]; exact amount_cell A B c k r 0)
      (by
        rw [← hcell, payload_cell]
        refine BIBase.Entails.trans ?_ hpay
        iintro ⟨Hd, Hs⟩
        isplitl [Hd]
        · iapply (ownd_intro c dst (dst.view.write (Elt F) fd (src.view.read (Elt F) fs) Finset.univ) (by rw [View.read_write_univ]; exact hfs)); iexact Hd
        · iapply (ownd_intro c src fs hfs); iexact Hs)) $$ [Hs Hd Ht Hr]
  · isplitr
    · rw [← hcell]; iapply (ctx_cell A B K Kn c k); iexact Hctx
    isplitl [Hs]; · iexact Hs
    isplitl [Hd]; · iexact Hd
    isplitl [Ht] <;> iassumption
  iintro Hc
  rw [wp_ret]
  imodintro
  iapply Hk
  iexact Hc

/-- A transfer to the next device: it pays round `r` of the own send cell and round `r'` of the other's receive cell. -/
theorem send_one (nt : Fin 8) (t : ℕ) (ht6 : t < 6) {O : CellTallies nD τ sig ℕ} {Kt : PUnit → sProp 𝕄} :
    iprop(ctx A B K Kn ∗ ownd c (send nt) (sent A B t c nt)
        ∗ writeTok ES (nxtD c, nt, par t) (t / 2 + 1) ∗ fact (nxtD c) nt t
        ∗ ow c (O + tallyAt (cell (nxtD c) (.recv nt (par t))) t nS)
        ∗ dutyTok ER (cell c (.send nt)) t 0 ∗ reached ER (cell c (.send nt)) t
        ∗ dutyTok ER (cell (nxtD c) (.recv nt (par t))) (t / 2) 0)
      ⊢ iprop(((cred (tallyAt (cell c (.send nt)) 0 nS) ∗ ow c O) -∗ Kt ⟨⟩)
          -∗ run c (sendStart c nt (par t)) Kt) := by
  have hpar : 2 * (t / 2) + t % 2 = t := by omega
  unfold fact ow
  iintro ⟨#Hctx, Hs, Hw, ⟨#Hrel, #Hrr⟩, ⟨%W, HO⟩, Ht, Hr, Ht'⟩ Hk
  imod (slot_take ES (Set.mem_univ (Kn (nxtD c, nt, par t))) (t / 2 + 1)) $$ [Hw] with Hd
  · isplitr; · iapply (ctx_slot A B K Kn (nxtD c, nt, par t)); iexact Hctx
    isplitr; · iexact Hrel
    iexact Hw
  unfold hole slot
  icases Hd with ⟨%fd, Hd⟩
  ihave Hs := (ownd_elim c (send nt) (sent A B t c nt)) $$ Hs
  icases Hs with ⟨%fs, %hfs, Hs⟩
  iapply (Rounds.wp_send_pointsTo 𝒱₀ ER (Rd A B) (c : Thread nD τ) none (c' := ((nxtD c : Dev nD) : Thread nD τ)) (src := send nt) (dst := recv nt (par t))
      (sS := .dma (sendSem nt)) (sem := .dma (recvSem nt (par t))) (q := fullShare) (k := Prog.ret) (fs := fs) (κ₁ := K (cell c (.send nt)))
      (κ₂ := K (cell (nxtD c) (.recv nt (par t)))) (r₁ := t) (r₂ := t / 2) (d₁ := 0) (d₂ := 0) (fd := fd)
      (show (0 : Fin 4) ∈ (Rd A B).duties (cell c (.send nt)) t by rw [duties_cell]; simp only [dutiesK]; rw [if_pos ht6]; exact Finset.mem_singleton_self _)
      (show (0 : Fin 4) ∈ (Rd A B).duties (cell (nxtD c) (.recv nt (par t))) (t / 2) by
        rw [duties_cell]; simp only [dutiesK]; rw [if_pos (by omega)]; exact Finset.mem_singleton_self _)
      t 0 nS rfl (amount_cell A B c (.send nt) t 0) (amount_cell A B (nxtD c) (.recv nt (par t)) (t / 2) 0) O rfl (W := W)
      (by
        show _ ⊢ (Rd A B).payload (cell c (.send nt)) t 0
        rw [payload_cell]
        show _ ⊢ ownd c (send nt) (sent A B t c nt)
        exact ownd_intro c (send nt) fs hfs)
      (by
        show _ ⊢ (Rd A B).payload (cell (nxtD c) (.recv nt (par t))) (t / 2) 0
        rw [payload_cell]
        show _ ⊢ ownd (nxtD c) (recv nt (par t)) (sent A B (2 * (t / 2) + t % 2) (prvD (nxtD c)) nt)
        rw [hpar, prv_nxt]
        exact ownd_intro (nxtD c) (recv nt (par t)) _ (by rw [View.read_write_univ]; exact hfs))) $$ [Hs Hd HO Ht Hr Ht']
  · isplitr; · iapply (ctx_cell A B K Kn c (.send nt)); iexact Hctx
    isplitr; · iapply (ctx_cell A B K Kn (nxtD c) (.recv nt (par t))); iexact Hctx
    isplitl [Hs]; · iexact Hs
    isplitl [Hd]; · iexact Hd
    isplitl [HO]; · iexact HO
    isplitl [Ht]; · iexact Ht
    isplitl [Hr]; · iexact Hr
    isplitl [Ht']; · iexact Ht'
    iexact Hrr
  iintro ⟨Hc, HO⟩
  rw [wp_ret]
  imodintro
  iapply Hk
  isplitl [Hc]; · iexact Hc
  iexists W; iexact HO

/-! ## Signals -/

/-- A signal of one unit to another device's cell. -/
theorem signal_one (d : Dev nD) (k : Cl) (ι : ℕ) (j : Fin 4) {sem : Sem sig} (hloc : loc k = .reg sem) (hj : j ∈ dutiesK k 0)
    (hk : amountK k = 1) {O : CellTallies nD τ sig ℕ} {Kt : PUnit → sProp 𝕄} :
    iprop(ctx A B K Kn ∗ ow c (O + tallyAt (cell d k) ι 1) ∗ dutyTok ER (cell d k) 0 j ∗ payK A B d k 0 j ∗ reached ER (cell d k) 0)
      ⊢ iprop((ow c O -∗ Kt ⟨⟩) -∗ run c (semSignalWord d sem 1#32) Kt) := by
  have hcell : cell d k = ((d : Thread nD τ), SemLoc.reg sem) := by unfold cell; rw [hloc]
  unfold ow
  iintro ⟨#Hctx, ⟨%W, HO⟩, Ht, Hp, Hr⟩ Hk
  iapply (Rounds.wp_signal 𝒱₀ ER (Rd A B) (c : Thread nD τ) none (dst := (d : Thread nD τ)) (sem := sem) (r := 0) (d := j) (k := Prog.ret) (κ := K (cell d k))
      (by rw [← hcell, duties_cell]; exact hj) (by rw [← hcell, amount_cell, hk]; rfl) ι O rfl (W := W)) $$ [HO Ht Hp Hr]
  · rw [← hcell]
    isplitr; · iapply (ctx_cell A B K Kn d k); iexact Hctx
    isplitl [HO]; · iexact HO
    isplitl [Ht]; · iexact Ht
    isplitl [Hp]; · rw [payload_cell]; iexact Hp
    iexact Hr
  iintro HO
  rw [wp_ret]
  imodintro
  iapply Hk
  iexists W; iexact HO

end Cert.KernelIdeal.Steps
-- ==== Proof.Steps.lean ====
/-
  The steps of the body, each as what it takes and gives: the state of a transfer slot is free or
  in flight, and a step moves it from the one to the other.
-/
module

public import proofs.«01_k».proof.Proof.Ops
public import Idealize.SL.BI.BigOpNat

@[expose] public section

noncomputable section

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Numbers -/

theorem two_half_par (k : ℕ) : 2 * (k / 2) + (par k).val = k := by show 2 * (k / 2) + k % 2 = k; omega
theorem num8_val (k : Fin 8) : num8 k.val = k := Fin.ext (Nat.mod_eq_of_lt k.isLt)

/-! ## What is known of a device's receive slots -/

theorem facts_succ (d : Dev nD) (nt : Fin 8) (n : ℕ) :
    iprop(facts (F := F) d nt n ∗ fact d nt n) ⊢ (facts d nt (n + 1) : sProp 𝕄) := by
  unfold facts
  rw [bigSep_range_succ]
  iintro ⟨H, H'⟩
  isplitl [H'] <;> iassumption
theorem facts_mono (d : Dev nD) (nt : Fin 8) {m n : ℕ} (h : m ≤ n) : facts d nt n ⊢ (facts d nt m : sProp 𝕄) :=
  bigSep_subset (Finset.range_mono h)
theorem facts_get (d : Dev nD) (nt : Fin 8) {t n : ℕ} (h : t < n) : facts d nt n ⊢ (fact d nt t : sProp 𝕄) :=
  bigSep_elim (Finset.mem_range.mpr h)

/-! ## The state of the slots -/

variable (A : Dev nD → S2x2048x1024.Idx → Elt F .bf16) (B : Dev nD → S1024x4096.Idx → Elt F .bf16)
  (K : GSem nD τ sig → ℕ) (Kn : Key → ℕ) (c : Dev nD)

/-- Staging slot `s` of `O` after `n` loads; -/
def oFree (s : Fin 2) (n : ℕ) : sProp 𝕄 := iprop(hole c (ost s) ∗ at_ c (.o s) n)
/-- load `k` on its way; -/
def oBusy (k : Fin 8) : sProp 𝕄 :=
  iprop(cred (tallyAt (cell c (.o (par k.val))) 0 nO) ∗ atPos ER (cell c (.o (par k.val))) (k.val / 2) ∅ 0)
/-- what load `k` needs besides its slot. -/
def oTok (k : Fin 8) : sProp 𝕄 :=
  iprop(dutyTok ER (cell c (.o (par k.val))) (k.val / 2) 0 ∗ ownd c (oSrc c k) (oBlk A c k))

/-- Send slot `nt` after `n` sends; send `n` on its way. -/
def sFree (nt : Fin 8) (n : ℕ) : sProp 𝕄 := iprop(hole c (send nt) ∗ at_ c (.send nt) n)
def sBusy (nt : Fin 8) (n : ℕ) : sProp 𝕄 :=
  iprop(cred (tallyAt (cell c (.send nt)) 0 nS) ∗ atPos ER (cell c (.send nt)) n ∅ 0)

/-- Output staging slot `s` after `n` copies; copy `k` on its way; what it needs; what it leaves. -/
def outFree (s : Fin 2) (n : ℕ) : sProp 𝕄 := iprop(hole c (stage s) ∗ at_ c (.out s) n)
def outBusy (k : ℕ) : sProp 𝕄 :=
  iprop(cred (tallyAt (cell c (.out (par k))) 0 nOut) ∗ atPos ER (cell c (.out (par k))) (k / 2) ∅ 0)
def outTok (k : ℕ) : sProp 𝕄 :=
  iprop(dutyTok ER (cell c (.out (par k))) (k / 2) 0 ∗ hole c (outDst (sub2 k) (num8 k)))
def outDone (k : ℕ) : sProp 𝕄 := ownd c (outDst (sub2 k) (num8 k)) (res A B c (sub2 k) (num8 k))

/-- A tile's credits, `j` of them taken: what the next device has told of its receive slots. -/
def credS (nt : Fin 8) (j : ℕ) : sProp 𝕄 :=
  iprop((if j < 4 then iprop(∃ S : Finset (Fin 4), atPos ER (cell c (.cred nt)) 0 S j ∗ bigSep S (fun d => facts (nxtD c) nt (d.val + 3)))
      else atPos ER (cell c (.cred nt)) 1 ∅ 0)
    ∗ facts (nxtD c) nt (j + 2))

variable {A B K Kn c}

/-! ## Loads of `O` -/

theorem oStart_step (k : Fin 8) {Kt : PUnit → sProp 𝕄} :
    iprop(ctx A B K Kn ∗ oFree c (par k.val) (k.val / 2) ∗ oTok A c k)
      ⊢ iprop((oBusy c k -∗ Kt ⟨⟩) -∗ run c (oStart c k (par k.val)) Kt) := by
  unfold oFree oTok oBusy
  iintro ⟨#Hctx, ⟨Hd, Hat, Hr⟩, Ht, Hs⟩ Hk
  iapply (copy_one (A := A) (B := B) (K := K) (Kn := Kn) (c := c) (.o (par k.val)) (k.val / 2) 0 (src := oSrc c k) (dst := ost (par k.val)) (hs := exact_o c k) (hd := exact_ost _) (ht := ⟨Or.inl rfl, trivial⟩)
    (X := oBlk A c k) rfl rfl (if_pos (by have := k.isLt; omega))
    (by dsimp only [payK]; rw [two_half_par, num8_val])) $$ [Hs Hd Ht Hr]
  · isplitr; · iexact Hctx
    isplitl [Hs]; · iexact Hs
    isplitl [Hd]; · iexact Hd
    isplitl [Ht] <;> iassumption
  iintro Hc
  iapply Hk
  isplitl [Hc]; · iexact Hc
  iexact Hat

theorem oLoad_step (k : Fin 8) {O : CellTallies nD τ sig ℕ} (hO : Above 0 O) {Kt : FVec F S2x256x1024 .bf16 → sProp 𝕄} :
    iprop(ctx A B K Kn ∗ oBusy c k ∗ ow c O)
      ⊢ iprop(((oFree c (par k.val) (k.val / 2 + 1) ∗ ownd c (oSrc c k) (oBlk A c k) ∗ ow c O) -∗ Kt (oBlk A c k))
          -∗ run c (oLoad c k (par k.val)) Kt) := by
  unfold oFree oBusy oLoad run
  simp only [wp_bind]
  iintro ⟨#Hctx, ⟨Hc, Hat⟩, HO⟩ Hk
  iapply (wait_one (A := A) (B := B) (K := K) (Kn := Kn) (c := c) (.o (par k.val)) (k.val / 2) 0 (src := oSrc c k) (dst := ost (par k.val)) (hs := exact_o c k) (hd := exact_ost _) rfl rfl (if_pos (by have := k.isLt; omega))
    (by decide) hO) $$ [Hc Hat HO]
  · isplitr; · iexact Hctx
    isplitl [Hc]; · iexact Hc
    isplitl [HO] <;> iassumption
  dsimp only [payK]
  rw [two_half_par, num8_val]
  iintro ⟨HO, Hat, Hd, Hs⟩
  iapply (load_slot c mOst (rOst (par k.val)) (fun _ => rfl) squeezes_S1x2x256x1024_S2x256x1024 shapeCasts_S1x2x256x1024_S2x256x1024
    (hl := View.loadsAt_vmem h_S1x2x256x1024)) $$ [Hd]
  · iexact Hd
  iintro %v %hv Hd
  rw [hv]
  iapply (le_wp_ret _ _ _ (oBlk A c k))
  iapply Hk
  isplitl [Hd Hat]
  · isplitl [Hd]
    · iapply (ownd_hole c (ost (par k.val)) (oBlk A c k)); iexact Hd
    iexact Hat
  isplitl [Hs] <;> iassumption

/-! ## Tiles of `Wo` -/

theorem wLoad_step (nt : Fin 8) {Kt : Vec F S1024x512 .bf16 → sProp 𝕄} :
    ownd c mW (B c) ⊢ iprop((ownd c mW (B c) -∗ Kt (wTile B c nt)) -∗ run c (wLoad nt) Kt) := by
  have hsub : (mW.access (rW nt)).set ⊆ mW.view.set := View.set_slice_subset _ _
  iintro H Hk
  ihave H := (ownd_elim c mW (B c)) $$ H
  icases H with ⟨%f, %hf, H⟩
  iapply (wp_load_rect (defs := defs₀ (F := F)) 𝒱₀ (c : Thread nD τ) none (Γ := []) Set.univ (k := Prog.ret) (m := mW) (r := rW nt) (q := fullShare) (f := f) hsub) $$ [H]
  · iexact H
  iintro H
  rw [wp_ret, show (mW.access (rW nt)).read (Elt F) f = wTile B c nt by unfold wTile; rw [← hf]; rfl]
  imodintro
  iapply Hk
  iapply (ownd_intro c mW f hf); iexact H

/-! ## The send slot -/

theorem sendWait_step (nt : Fin 8) (s : Fin 2) (n : ℕ) (hn : n < 6) {O : CellTallies nD τ sig ℕ} (hO : Above 0 O) {Kt : PUnit → sProp 𝕄} :
    iprop(ctx A B K Kn ∗ sBusy c nt n ∗ ow c O)
      ⊢ iprop(((sFree c nt (n + 1) ∗ ow c O) -∗ Kt ⟨⟩) -∗ run c (sendWait nt s) Kt) := by
  unfold sFree sBusy
  iintro ⟨#Hctx, ⟨Hc, Hat⟩, HO⟩ Hk
  iapply (wait_one (A := A) (B := B) (K := K) (Kn := Kn) (c := c) (.send nt) n 0 (src := recv nt s) (dst := send nt) (hs := exact_recv nt s) (hd := exact_send nt) rfl rfl (if_pos hn) (by decide) hO) $$ [Hc Hat HO]
  · isplitr; · iexact Hctx
    isplitl [Hc]; · iexact Hc
    isplitl [HO] <;> iassumption
  dsimp only [payK]
  iintro ⟨HO, Hat, Hs⟩
  iapply Hk
  isplitl [Hs Hat]
  · isplitl [Hs]
    · iapply (ownd_hole c (send nt) (sent A B n c nt)); iexact Hs
    iexact Hat
  iexact HO

/-- A load whose value nobody uses, and a store. -/
theorem sendStore_step (nt : Fin 8) (x : FVec F S2x256x512 .bf16) {Kt : PUnit → sProp 𝕄} :
    hole c (send nt) ⊢ iprop((ownd c (send nt) x -∗ Kt ⟨⟩) -∗ run c (sendStore nt x) Kt) := by
  unfold sendStore run
  simp only [wp_bind]
  iintro H Hk
  unfold hole slot
  icases H with ⟨%f, H⟩
  iapply (load_slot c mSend (rSend nt) (fun _ => rfl) squeezes_S1x2x256x512_S2x256x512 shapeCasts_S1x2x256x512_S2x256x512
    (hl := View.loadsAt_vmem h_S1x2x256x512)) $$ [H]
  · iapply (ownd_intro c (send nt) f rfl); iexact H
  iintro %v - H
  iapply (store_slot c mSend (rSend nt) (fun _ => rfl) squeezes_S1x2x256x512_S2x256x512 shapeCasts_S2x256x512_S1x2x256x512
    (hx := stores_send nt) (hm := .inl rfl) (Y := x)) $$ [H]
  · iapply (ownd_hole c (send nt) _); iexact H
  iexact Hk

/-! ## The receive slots -/

theorem recvWait_step (nt : Fin 8) (t : ℕ) (ht : t < 6) {O : CellTallies nD τ sig ℕ} (hO : Above (2 * t + 2) O) {Kt : PUnit → sProp 𝕄} :
    iprop(ctx A B K Kn ∗ cred (tallyAt (cell c (.recv nt (par t))) t nS) ∗ atPos ER (cell c (.recv nt (par t))) (t / 2) ∅ 0 ∗ ow c O)
      ⊢ iprop(((at_ c (.recv nt (par t)) (t / 2 + 1) ∗ ownd c (recv nt (par t)) (sent A B t (prvD c) nt) ∗ ow c O) -∗ Kt ⟨⟩)
          -∗ run c (recvWait nt (par t)) Kt) := by
  iintro ⟨#Hctx, Hc, Hat, HO⟩ Hk
  iapply (wait_one (A := A) (B := B) (K := K) (Kn := Kn) (c := c) (.recv nt (par t)) (t / 2) t (src := send nt) (dst := recv nt (par t)) (hs := exact_send nt) (hd := exact_recv nt _) rfl rfl (if_pos (by omega)) (by omega) hO) $$ [Hc Hat HO]
  · isplitr; · iexact Hctx
    isplitl [Hc]; · iexact Hc
    isplitl [HO] <;> iassumption
  dsimp only [payK]
  rw [two_half_par]
  iintro ⟨HO, Hat, Hs⟩
  iapply Hk
  isplitl [Hat]; · iexact Hat
  isplitl [Hs] <;> iassumption

theorem recvLoad_step (nt : Fin 8) (s : Fin 2) (X : FVec F S2x256x512 .bf16) {Kt : FVec F S2x256x512 .bf16 → sProp 𝕄} :
    ownd c (recv nt s) X ⊢ iprop((hole c (recv nt s) -∗ Kt X) -∗ run c (recvLoad nt s) Kt) := by
  unfold recvLoad run
  simp only [wp_bind]
  iintro H Hk
  iapply (load_slot c mRecv (rRecv nt s) (fun _ => rfl) squeezes_S1x1x2x256x512_S2x256x512 shapeCasts_S1x1x2x256x512_S2x256x512
    (hl := View.loadsAt_vmem h_S1x1x2x256x512)) $$ [H]
  · iexact H
  iintro %v %hv H
  rw [hv]
  iapply (le_wp_ret _ _ _ X)
  iapply Hk
  iapply (ownd_hole c (recv nt s) X); iexact H

/-! ## Credits -/

theorem view_set_nonempty (nt : Fin 8) (s : Fin 2) : (recv nt s).view.set.Nonempty :=
  Finset.map_nonempty.mpr ⟨fun a => ⟨0, by revert a; decide⟩, Finset.mem_univ _⟩

/-- Transfer `t` has been read: its slot goes back, and the device before is told. -/
theorem credSignal_step (nt : Fin 8) (t : ℕ) (ht : t < 4) {O : CellTallies nD τ sig ℕ} {Kt : PUnit → sProp 𝕄} :
    iprop(ctx A B K Kn ∗ readerAt ES (c, nt, par t) (t / 2 + 1) ∗ hole c (recv nt (par t)) ∗ reached ER (cell c (.recv nt (par t))) (t / 2 + 1)
        ∗ facts c nt (t + 2) ∗ dutyTok ER (cell (prvD c) (.cred nt)) 0 ⟨t, ht⟩ ∗ reached ER (cell (prvD c) (.cred nt)) 0
        ∗ ow c (O + tallyAt (cell (prvD c) (.cred nt)) t 1))
      ⊢ iprop(((readerAt ES (c, nt, par t) (t / 2 + 2) ∗ facts c nt (t + 3) ∗ ow c O) -∗ Kt ⟨⟩)
          -∗ run c (credSignal c nt) Kt) := by
  have hp : par (t + 2) = par t := Fin.ext (by show (t + 2) % 2 = t % 2; omega)
  have hd : (t + 2) / 2 = t / 2 + 1 := by omega
  iintro ⟨#Hctx, Hrd, Hh, #Hr, #Hf, Ht, #Hrc, HO⟩ Hk
  imod (slot_release ES (Set.mem_univ (Kn (c, nt, par t))) (slot_slot_false (ℓ := (recv nt (par t)).view.loc (c : Thread nD τ)) (I := (recv nt (par t)).view.set) (view_set_nonempty nt (par t))) (t / 2 + 1)) $$ [Hrd Hh] with ⟨Hrd, #Hrel⟩
  · isplitr; · iapply (ctx_slot A B K Kn (c, nt, par t)); iexact Hctx
    isplitl [Hrd] <;> iassumption
  ihave #Hf3 : facts c nt (t + 3) $$ []
  · iapply (facts_succ c nt (t + 2))
    isplitl; · iexact Hf
    unfold fact
    rw [hp, hd]
    isplitl; · iexact Hrel
    iexact Hr
  iapply (signal_one (A := A) (B := B) (K := K) (Kn := Kn) (c := c) (prvD c) (.cred nt) t ⟨t, ht⟩ rfl (by rw [show dutiesK (.cred nt) 0 = Finset.univ by dsimp only [dutiesK]; exact if_pos Nat.one_pos]; exact Finset.mem_univ _) rfl) $$ [Ht HO]
  · isplitr; · iexact Hctx
    isplitl [HO]; · iexact HO
    isplitl [Ht]; · iexact Ht
    dsimp only [payK]
    rw [nxt_prv]
    isplitl; · iexact Hf3
    iexact Hrc
  iintro HO
  iapply Hk
  isplitl [Hrd]; · iexact Hrd
  isplitr; · iexact Hf3
  iexact HO

/-- Of more than `j` credits one tells of transfer `j + 2`. -/
theorem credits_known (d : Dev nD) (nt : Fin 8) {j : ℕ} (S : Finset (Fin 4)) (h : j < S.card) :
    bigSep S (fun i : Fin 4 => facts d nt (i.val + 3)) ⊢ (facts d nt (j + 1 + 2) : sProp 𝕄) := by
  have hex : ∃ i ∈ S, j ≤ i.val := by
    by_contra hn
    push Not at hn
    have := Finset.card_le_card_of_injOn (t := Finset.range j) (fun i : Fin 4 => i.val) (fun i hi => Finset.mem_coe.mpr (Finset.mem_range.mpr (hn i hi)))
      (fun a _ b _ hab => Fin.ext hab)
    rw [Finset.card_range] at this
    omega
  obtain ⟨i, hi, hij⟩ := hex
  have he : bigSep S (fun i : Fin 4 => facts d nt (i.val + 3)) ⊢ (facts d nt (i.val + 3) : sProp 𝕄) := bigSep_elim hi
  exact he.trans (facts_mono d nt (by omega))

/-- Wait for one more credit of tile `nt`. -/
theorem credWait_step (nt : Fin 8) (j : ℕ) (hj : j < 4) {O : CellTallies nD τ sig ℕ} (hO : Above (2 * j + 3) O) {Kt : PUnit → sProp 𝕄} :
    iprop(ctx A B K Kn ∗ credS c nt j ∗ cred (tallyAt (cell c (.cred nt)) j 1) ∗ ow c O)
      ⊢ iprop(((credS c nt (j + 1) ∗ ow c O) -∗ Kt ⟨⟩) -∗ run c (credWait nt) Kt) := by
  have hdut : (Rd A B).duties (cell c (.cred nt)) 0 = Finset.univ := by
    rw [duties_cell]; dsimp only [dutiesK]; exact if_pos Nat.one_pos
  have hexp : (Rd A B).expect (cell c (.cred nt)) 0 = 4 := by
    rw [expect_cell]; rfl
  unfold credS ow
  rw [if_pos hj]
  iintro ⟨#Hctx, ⟨⟨%T, Hat, #HT⟩, #Hf⟩, Hc, ⟨%W, HO⟩⟩ Hk
  have hjoin (S : Finset (Fin 4)) (h : T ⊆ S) :
      iprop(bigSep T (fun d : Fin 4 => facts (nxtD c) nt (d.val + 3)) ∗ bigSep (S \ T) (fun d : Fin 4 => facts (nxtD c) nt (d.val + 3)))
        ⊢ (bigSep S (fun d : Fin 4 => facts (nxtD c) nt (d.val + 3)) : sProp 𝕄) := Entails.of_eq (bigSep_sdiff_split h).symm
  by_cases h3 : j + 1 < 4
  · iapply (Rounds.wp_wait 𝒱₀ ER (Rd A B) (c : Thread nD τ) none (κ := K (cell c (.cred nt))) (sm := .reg (credSem nt)) (k := Prog.ret)
        (wpE_semWait_eq 𝒱₀ (c : Thread nD τ) none Set.univ) (Set.mem_univ _) (cr := Finsupp.single j 1) (O := O) (W := W) {(.reg (credSem nt), j)} (R := 0) (m := j) (T := T)
        (Util.total_single ..) (image_single_subset (SemLoc.reg (credSem nt)) j 1)) $$ [Hc HO Hat]
    · isplitr; · iapply (ctx_cell A B K Kn c (.cred nt)); iexact Hctx
      isplitl [Hc]; · iexact Hc
      isplitl [HO]; · iexact HO
      isplitr; · iapply (mayWait_of (.cred nt) j (by omega) hO); iexact Hctx
      iexact Hat
    iintro %S ⟨%hS, HO, Hat, Hpay⟩
    obtain ⟨hTS, -, hcard⟩ := hS
    change j + 1 + ((Rd A B).duties (cell c (.cred nt)) 0 \ S).card ≤ (Rd A B).expect (cell c (.cred nt)) 0 at hcard
    rw [hdut, hexp] at hcard
    ihave #HS : bigSep S (fun d : Fin 4 => facts (nxtD c) nt (d.val + 3)) $$ [Hpay]
    · iapply (hjoin S hTS)
      isplitr; · iexact HT
      iapply (Entails.of_eq (bigSep_congr fun d _ => payload_cell A B c (.cred nt) 0 d)); iexact Hpay
    rw [wp_ret]
    imodintro
    iapply Hk
    rw [if_pos h3]
    isplitl [Hat]
    · isplitl [Hat]
      · iexists S
        isplitl; · iexact Hat
        iexact HS
      iapply (credits_known (nxtD c) nt S (by
        have h4 : (Finset.univ \ S).card = 4 - S.card := (Finset.card_sdiff_of_subset (Finset.subset_univ S)).trans rfl
        omega))
      iexact HS
    iexists _; iexact HO
  · obtain rfl : j = 3 := by omega
    iapply (Rounds.wp_wait_rest_token 𝒱₀ ER (Rd A B) (c : Thread nD τ) none (κ := K (cell c (.cred nt))) (sm := .reg (credSem nt)) (k' := 1) (k := Prog.ret)
        (wpE_semWait_eq 𝒱₀ (c : Thread nD τ) none Set.univ) (Set.mem_univ _) 3 (O := O) (W := W) (R := 0) (m := 3) (T := T)
        (hexp.symm)) $$ [Hc HO Hat]
    · isplitr; · iapply (ctx_cell A B K Kn c (.cred nt)); iexact Hctx
      isplitl [Hc]; · iexact Hc
      isplitl [HO]; · iexact HO
      isplitr; · iapply (mayWait_of (.cred nt) 3 (by omega) hO); iexact Hctx
      iexact Hat
    iintro ⟨HO, Hat, -, Hpay⟩
    ihave #HS : bigSep (Finset.univ : Finset (Fin 4)) (fun d : Fin 4 => facts (nxtD c) nt (d.val + 3)) $$ [Hpay]
    · iapply (hjoin Finset.univ (Finset.subset_univ T))
      isplitr; · iexact HT
      iapply (Entails.of_eq ((congrArg (fun D => bigSep (D \ T) (fun d => (Rd A B).payload (cell c (.cred nt)) 0 d)) hdut).trans
        (bigSep_congr fun d _ => payload_cell A B c (.cred nt) 0 d))); iexact Hpay
    rw [wp_ret]
    imodintro
    iapply Hk
    rw [if_neg (by omega)]
    isplitl [Hat]
    · isplitl [Hat]; · iexact Hat
      iapply (credits_known (nxtD c) nt Finset.univ (by decide))
      iexact HS
    iexists _; iexact HO

/-! ## The output -/

theorem outWait_step (k : ℕ) (hk : k < 16) (sub : Fin 2) (nt : Fin 8) {O : CellTallies nD τ sig ℕ} (hO : Above 0 O) {Kt : PUnit → sProp 𝕄} :
    iprop(ctx A B K Kn ∗ outBusy c k ∗ ow c O)
      ⊢ iprop(((outFree c (par k) (k / 2 + 1) ∗ outDone A B c k ∗ ow c O) -∗ Kt ⟨⟩) -∗ run c (outWait sub nt (par k)) Kt) := by
  unfold outFree outBusy outDone
  iintro ⟨#Hctx, ⟨Hc, Hat⟩, HO⟩ Hk
  iapply (wait_one (A := A) (B := B) (K := K) (Kn := Kn) (c := c) (.out (par k)) (k / 2) 0 (src := stage (par k)) (dst := outDst sub nt) (hs := exact_stage _) (hd := exact_out sub nt) rfl rfl (if_pos (by omega)) (by decide) hO) $$ [Hc Hat HO]
  · isplitr; · iexact Hctx
    isplitl [Hc]; · iexact Hc
    isplitl [HO] <;> iassumption
  dsimp only [payK]
  rw [two_half_par]
  iintro ⟨HO, Hat, Hd, Hs⟩
  iapply Hk
  isplitl [Hs Hat]
  · isplitl [Hs]; · iexact Hs
    iexact Hat
  isplitl [Hd] <;> iassumption

theorem outStore_step (s : Fin 2) (x : FVec F S2x256x512 .f32) {Kt : PUnit → sProp 𝕄} :
    hole c (stage s) ⊢ iprop((ownd c (stage s) x -∗ Kt ⟨⟩) -∗ run c (outStore s x) Kt) := by
  unfold outStore run
  simp only [wp_bind]
  iintro H Hk
  unfold hole slot
  icases H with ⟨%f, H⟩
  iapply (load_slot c mStage (rStage s) (fun _ => rfl) squeezes_S1x2x256x512_S2x256x512 shapeCasts_S1x2x256x512_S2x256x512 (hl := View.loadsAt_vmem h_S1x2x256x512)) $$ [H]
  · iapply (ownd_intro c (stage s) f rfl); iexact H
  iintro %v - H
  iapply (store_slot c mStage (rStage s) (fun _ => rfl) squeezes_S1x2x256x512_S2x256x512 shapeCasts_S2x256x512_S1x2x256x512
    (hx := stores_stage s) (hm := .inl rfl) (Y := x)) $$ [H]
  · iapply (ownd_hole c (stage s) _); iexact H
  iexact Hk

theorem outStart_step (k : ℕ) (hk : k < 16) {Kt : PUnit → sProp 𝕄} :
    iprop(ctx A B K Kn ∗ ownd c (stage (par k)) (res A B c (sub2 k) (num8 k)) ∗ at_ c (.out (par k)) (k / 2) ∗ outTok c k)
      ⊢ iprop((outBusy c k -∗ Kt ⟨⟩) -∗ run c (outStart (sub2 k) (num8 k) (par k)) Kt) := by
  unfold outTok outBusy
  iintro ⟨#Hctx, Hs, ⟨Hat, Hr⟩, Ht, Hd⟩ Hk
  iapply (copy_one (A := A) (B := B) (K := K) (Kn := Kn) (c := c) (.out (par k)) (k / 2) 0 (src := stage (par k)) (dst := outDst (sub2 k) (num8 k)) (hs := exact_stage _) (hd := exact_out _ _) (ht := ⟨Or.inl rfl, trivial⟩)
    (X := res A B c (sub2 k) (num8 k)) rfl rfl (if_pos (by omega))
    (by
      dsimp only [payK]; rw [two_half_par]
      iintro ⟨Hd, Hs⟩
      isplitl [Hd]; · iexact Hd
      iapply (ownd_hole c (stage (par k)) (res A B c (sub2 k) (num8 k))); iexact Hs)) $$ [Hs Hd Ht Hr]
  · isplitr; · iexact Hctx
    isplitl [Hs]; · iexact Hs
    isplitl [Hd]; · iexact Hd
    isplitl [Ht] <;> iassumption
  iintro Hc
  iapply Hk
  isplitl [Hc]; · iexact Hc
  iexact Hat

end Cert.KernelIdeal.Steps
-- ==== Proof.Tile.lean ====
/-
  One tile of one phase: the tile's state by how many transfers it has sent and read, and what
  the three kinds of tile step do to it.
-/
module

public import proofs.«01_k».proof.Proof.Steps

@[expose] public section

noncomputable section

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

theorem Above.of_add {b : ℕ} {O O' : CellTallies nD τ sig ℕ} (h : Above b (O + O')) : Above b O :=
  fun g ι hg => h g ι (lt_of_lt_of_le hg (Nat.le_add_right _ _))

theorem pop {a b : ℕ} (h : a < b) (Φ : ℕ → sProp 𝕄) :
    bigSep (Finset.Ico a b) Φ ⊢ iprop(Φ a ∗ bigSep (Finset.Ico (a + 1) b) Φ) := Entails.of_eq (bigSep_Ico_succ_bot h Φ)

section State

variable (A : Dev nD → S2x2048x1024.Idx → Elt F .bf16) (B : Dev nD → S1024x4096.Idx → Elt F .bf16)
  (c : Dev nD) (nt : Fin 8)

/-- What transfer `t` needs. -/
def sendTok (t : ℕ) : sProp 𝕄 :=
  iprop(dutyTok ER (cell c (.send nt)) t 0 ∗ dutyTok ER (cell (nxtD c) (.recv nt (par t))) (t / 2) 0
    ∗ writeTok ES (nxtD c, nt, par t) (t / 2 + 1))

/-- The transfers from `n` on and the credits from `j` on, to come. -/
def sendRest (n j : ℕ) : sProp 𝕄 :=
  iprop(bigSep (Finset.Ico n 6) (sendTok c nt) ∗ credS c nt j ∗ bigSep (Finset.Ico j 4) (fun i => cred (tallyAt (cell c (.cred nt)) i 1)))

/-- The send slot when `n` transfers have started: the last of them may be on its way. -/
def sendSlot (n : ℕ) : sProp 𝕄 := if n = 0 then sFree c nt 0 else sBusy c nt (n - 1)

/-- A tile's sending side after `n` transfers. -/
def sendPart (n : ℕ) : sProp 𝕄 := iprop(sendSlot c nt n ∗ sendRest c nt n (n - 2))

/-- Receive slot `s` after `n` transfers read: given back at once, but for the last. -/
def recvSlot (s : Fin 2) (n : ℕ) : sProp 𝕄 :=
  iprop(atPos ER (cell c (.recv nt s)) n ∅ 0 ∗ readerAt ES (c, nt, s) (min n 2 + 1) ∗ (if n < 3 then iprop(emp) else hole c (recv nt s)))

abbrev num4 (k : ℕ) : Fin 4 := ⟨k % 4, Nat.mod_lt _ (by decide)⟩

/-- A tile's receiving side after `m` transfers read. -/
def recvPart (m : ℕ) : sProp 𝕄 :=
  iprop(bigSep Finset.univ (fun s : Fin 2 => recvSlot c nt s ((m + 1 - s.val) / 2))
    ∗ bigSep (Finset.Ico m 6) (fun t => cred (tallyAt (cell c (.recv nt (par t))) t nS))
    ∗ bigSep (Finset.Ico m 4) (fun k => dutyTok ER (cell (prvD c) (.cred nt)) 0 (num4 k))
    ∗ facts c nt (min m 4 + 2) ∗ reached ER (cell (prvD c) (.cred nt)) 0)

/-- Output staging slot `s` when `n` copies from it have started. -/
def outSlot (s : Fin 2) (n : ℕ) : sProp 𝕄 := if n = 0 then outFree c s 0 else outBusy c (2 * (n - 1) + s.val)

/-- The output when `k` copies have started. -/
def outPart (k : ℕ) : sProp 𝕄 :=
  iprop(bigSep Finset.univ (fun s : Fin 2 => outSlot c s ((k + 1 - s.val) / 2)) ∗ bigSep (Finset.Ico k 16) (outTok c)
    ∗ bigSep (Finset.range (k - 2)) (outDone A B c))

end State

variable {A : Dev nD → S2x2048x1024.Idx → Elt F .bf16} {B : Dev nD → S1024x4096.Idx → Elt F .bf16}
  {K : GSem nD τ sig → ℕ} {Kn : Key → ℕ} {c : Dev nD}

theorem owedCred_lt {t : ℕ} (nt : Fin 8) : owedCred c nt (some t) = tallyAt (cell (prvD c) (.cred nt)) t 1 := rfl

/-! ## Sending -/

/-- The credit a transfer from the third on waits for. -/
theorem credit_part (nt : Fin 8) (n : ℕ) (hn : n < 6) {b : Bool} (hb : b = Nat.ble 2 n) {O : CellTallies nD τ sig ℕ}
    (hO : Above (2 * n) O) {Kt : PUnit → sProp 𝕄} :
    iprop(ctx A B K Kn ∗ sendRest c nt n (n - 2) ∗ ow c O)
      ⊢ iprop(((sendRest c nt n (n - 1) ∗ ow c O) -∗ Kt ⟨⟩) -∗ run c (when b (credWait nt)) Kt) := by
  subst hb
  unfold when
  by_cases h : 2 ≤ n
  · rw [Nat.ble_eq_true_of_le h, cond_true]
    have hj : n - 2 < 4 := by omega
    have hn' : n - 2 + 1 = n - 1 := by omega
    unfold sendRest
    iintro ⟨#Hctx, ⟨Ht, Hs, Hc⟩, HO⟩ Hk
    ihave Hc := (pop hj _) $$ Hc
    rw [hn']
    icases Hc with ⟨Hc0, Hc⟩
    iapply (credWait_step (A := A) (B := B) (K := K) (Kn := Kn) (c := c) nt (n - 2) hj (hO.mono (by omega))) $$ [Hs Hc0 HO]
    · isplitr; · iexact Hctx
      isplitl [Hs]; · iexact Hs
      isplitl [Hc0] <;> iassumption
    rw [hn']
    iintro ⟨Hs, HO⟩
    iapply Hk
    isplitl [Ht Hs Hc]
    · isplitl [Ht]; · iexact Ht
      isplitl [Hs] <;> iassumption
    iexact HO
  · rw [show Nat.ble 2 n = false from by rw [Bool.eq_false_iff]; exact fun h' => h (Nat.le_of_ble_eq_true h'), cond_false,
      show n - 2 = n - 1 by omega]
    iintro ⟨-, H⟩ Hk
    iapply (le_wp_ret _ _ _ PUnit.unit)
    iapply Hk
    iexact H

/-- The wait for the transfer before, which leaves the send slot free. -/
theorem slot_part (nt : Fin 8) (s : Fin 2) (n : ℕ) (hn : n ≤ 6) {b : Bool} (hb : b = Nat.ble 1 n) {O : CellTallies nD τ sig ℕ}
    (hO : Above 0 O) {Kt : PUnit → sProp 𝕄} :
    iprop(ctx A B K Kn ∗ sendSlot c nt n ∗ ow c O)
      ⊢ iprop(((sFree c nt n ∗ ow c O) -∗ Kt ⟨⟩) -∗ run c (when b (sendWait nt s)) Kt) := by
  subst hb
  unfold when sendSlot
  by_cases h : 1 ≤ n
  · rw [Nat.ble_eq_true_of_le h, cond_true, if_neg (by omega)]
    have hs := sendWait_step (A := A) (B := B) (K := K) (Kn := Kn) (c := c) nt s (n - 1) (by omega) hO (Kt := Kt)
    rwa [Nat.sub_add_cancel h] at hs
  · obtain rfl : n = 0 := by omega
    rw [show Nat.ble 1 0 = false from rfl, cond_false, if_pos rfl]
    iintro ⟨-, H⟩ Hk
    iapply (le_wp_ret _ _ _ PUnit.unit)
    iapply Hk
    iexact H

/-- The transfer itself. -/
theorem post_part (nt : Fin 8) (n : ℕ) (hn : n < 6) {O : CellTallies nD τ sig ℕ} {Kt : PUnit → sProp 𝕄} :
    iprop(ctx A B K Kn ∗ sFree c nt n ∗ sendRest c nt n (n - 1) ∗ ow c (O + owedSend c nt (some n)))
      ⊢ iprop(((sendPart c nt (n + 1) ∗ ow c O) -∗ Kt ⟨⟩)
          -∗ run c (sendStore nt (sent A B n c nt) >>= fun _ => sendStart c nt (par n)) Kt) := by
  unfold sendPart sendSlot sendRest sFree run credS
  rw [if_neg (Nat.succ_ne_zero n), show n + 1 - 2 = n - 1 by omega, wp_bind]
  iintro ⟨#Hctx, ⟨Hs, Hat, Hr⟩, ⟨Ht, ⟨Hcr, #Hf⟩, Hc⟩, HO⟩ Hk
  iapply (sendStore_step nt (sent A B n c nt)) $$ [Hs]
  · iexact Hs
  iintro Hs
  ihave Ht := (pop hn _) $$ Ht
  unfold sendTok
  icases Ht with ⟨⟨Ht1, Ht2, Hw⟩, Ht⟩
  iapply (send_one (A := A) (B := B) (K := K) (Kn := Kn) (c := c) nt n hn (O := O)) $$ [Hs Hr HO Ht1 Ht2 Hw]
  · isplitr; · iexact Hctx
    isplitl [Hs]; · iexact Hs
    isplitl [Hw]; · iexact Hw
    isplitr; · iapply (facts_get (nxtD c) nt (show n < n - 1 + 2 by omega)); iexact Hf
    isplitl [HO]; · iexact HO
    isplitl [Ht1]; · iexact Ht1
    isplitl [Hr] <;> iassumption
  iintro ⟨Hcd, HO⟩
  iapply Hk
  isplitr [HO]
  · isplitl [Hcd Hat]
    · unfold sBusy
      isplitl [Hcd]; · iexact Hcd
      iexact Hat
    isplitl [Ht]; · iexact Ht
    isplitl [Hcr]
    · isplitl [Hcr]; · iexact Hcr
      iexact Hf
    iexact Hc
  iexact HO

/-! ## Receiving -/

theorem recv_part (nt : Fin 8) (t : ℕ) (ht : t < 6) {O : CellTallies nD τ sig ℕ} {cr : Option ℕ} (hcr : cr = if t < 4 then some t else none)
    (hO : Above (2 * t + 2) (O + owedCred c nt cr)) {α : Type} (k : FVec F S2x256x512 .bf16 → P (F := F) α) {Kt : α → sProp 𝕄} :
    iprop(ctx A B K Kn ∗ recvPart c nt t ∗ ow c (O + owedCred c nt cr))
      ⊢ iprop(((recvPart c nt (t + 1) ∗ ow c O) -∗ run c (k (sent A B t (prvD c) nt)) Kt)
          -∗ run c (recvWait nt (par t) >>= fun _ => recvLoad nt (par t) >>= fun r => when (Nat.ble t 3) (credSignal c nt) >>= fun _ => k r) Kt) := by
  unfold recvPart run
  rw [wp_bind]
  have hslot : bigSep Finset.univ (fun s : Fin 2 => recvSlot (F := F) c nt s ((t + 1 - s.val) / 2))
      ⊢ iprop(recvSlot c nt (par t) (t / 2) ∗ (recvSlot c nt (par t) (t / 2 + 1) -∗ bigSep Finset.univ (fun s : Fin 2 => recvSlot c nt s ((t + 1 + 1 - s.val) / 2)))) := by
    have h0 : (t + 1 - t % 2) / 2 = t / 2 := by omega
    have h1 : (t + 1 + 1 - t % 2) / 2 = t / 2 + 1 := by omega
    have h := bigSep_univ_update (Φ := fun s : Fin 2 => recvSlot (F := F) c nt s ((t + 1 - s.val) / 2))
      (Ψ := fun s : Fin 2 => recvSlot (F := F) c nt s ((t + 1 + 1 - s.val) / 2)) (par t) (fun s hs => by
        have h2 : s.val < 2 := s.isLt
        have h3 : s.val ≠ t % 2 := fun h => hs (Fin.ext h)
        rw [show (t + 1 - s.val) / 2 = (t + 1 + 1 - s.val) / 2 by omega])
    dsimp only at h
    rwa [h0, h1] at h
  iintro ⟨#Hctx, ⟨Hsl, Hcs, Hd, #Hf, #Hrp⟩, HO⟩ Hk
  ihave Hsl := hslot $$ Hsl
  icases Hsl with ⟨Hs, Hsl⟩
  ihave Hcs := (pop ht _) $$ Hcs
  icases Hcs with ⟨Hc0, Hcs⟩
  unfold recvSlot
  icases Hs with ⟨Hat, Hrd, -⟩
  iapply (recvWait_step (A := A) (B := B) (K := K) (Kn := Kn) (c := c) nt t ht hO) $$ [Hc0 Hat HO]
  · isplitr; · iexact Hctx
    isplitl [Hc0]; · iexact Hc0
    isplitl [Hat] <;> iassumption
  iintro ⟨⟨Hat, #Hr⟩, Hh, HO⟩
  rw [wp_bind]
  iapply (recvLoad_step nt (par t) (sent A B t (prvD c) nt)) $$ [Hh]
  · iexact Hh
  iintro Hh
  rw [wp_bind]
  unfold when
  by_cases h : t < 4
  · rw [Nat.ble_eq_true_of_le (Nat.le_of_lt_succ h), cond_true]
    rw [if_pos h] at hcr
    subst hcr
    have hm : min (t / 2) 2 = t / 2 := by omega
    have hm' : min (t / 2 + 1) 2 = t / 2 + 1 := by omega
    have h4 : min t 4 = t := by omega
    have h4' : min (t + 1) 4 = t + 1 := by omega
    have hn : num4 t = ⟨t, h⟩ := Fin.ext (Nat.mod_eq_of_lt h)
    rw [hm, h4]
    ihave Hd := (pop h _) $$ Hd
    rw [hn]
    icases Hd with ⟨Hd0, Hd⟩
    iapply (credSignal_step (A := A) (B := B) (K := K) (Kn := Kn) (c := c) nt t h (O := O)) $$ [Hrd Hh Hd0 HO]
    · isplitr; · iexact Hctx
      isplitl [Hrd]; · iexact Hrd
      isplitl [Hh]; · iexact Hh
      isplitr; · iexact Hr
      isplitr; · iexact Hf
      isplitl [Hd0]; · iexact Hd0
      isplitr; · iexact Hrp
      iexact HO
    iintro ⟨Hrd, #Hf, HO⟩
    iapply Hk
    isplitr [HO]
    · isplitl [Hsl Hat Hrd]
      · iapply Hsl
        rw [hm', if_pos (by omega)]
        isplitl [Hat]; · iexact Hat
        isplitl [Hrd]; · iexact Hrd
        iempintro
      isplitl [Hcs]; · iexact Hcs
      isplitl [Hd]; · iexact Hd
      isplitr
      · rw [h4', show t + 1 + 2 = t + 3 by omega]; iexact Hf
      iexact Hrp
    iexact HO
  · rw [show Nat.ble t 3 = false from by rw [Bool.eq_false_iff]; exact fun h' => h (Nat.lt_succ_of_le (Nat.le_of_ble_eq_true h')), cond_false]
    rw [if_neg h] at hcr
    subst hcr
    have h4 : min t 4 = 4 := by omega
    have h4' : min (t + 1) 4 = 4 := by omega
    have hm : min (t / 2) 2 = 2 := by omega
    have hm' : min (t / 2 + 1) 2 = 2 := by omega
    rw [hm, h4]
    iapply (le_wp_ret _ _ _ PUnit.unit)
    iapply Hk
    isplitr [HO]
    · isplitl [Hsl Hat Hrd Hh]
      · iapply Hsl
        rw [hm', if_neg (by omega)]
        isplitl [Hat]; · iexact Hat
        isplitl [Hrd]; · iexact Hrd
        iexact Hh
      isplitl [Hcs]; · iexact Hcs
      isplitl [Hd]
      · rw [Finset.Ico_eq_empty (by omega), Finset.Ico_eq_empty (by omega)]; iexact Hd
      isplitr
      · rw [h4']; iexact Hf
      iexact Hrp
    have h0 : O + owedCred c nt none = O := add_zero O
    rw [h0]
    iexact HO

/-! ## The tile steps -/

theorem seed_tile (nt : Fin 8) (t : ℕ) (ht : t < 6) (k : Fin 8)
    (hv : roundV (dotV (oBlk A c k) (wTile B c nt)) = sent A B t c nt)
    {O : CellTallies nD τ sig ℕ} (hO : Above (2 * t) (O + owedSend c nt (some t))) {Kt : PUnit → sProp 𝕄} :
    iprop(ctx A B K Kn ∗ sendPart c nt t ∗ ownd c mW (B c) ∗ ow c (O + owedSend c nt (some t)))
      ⊢ iprop(((sendPart c nt (t + 1) ∗ ownd c mW (B c) ∗ ow c O) -∗ Kt ⟨⟩) -∗ run c (seed c t (oBlk A c k) nt) Kt) := by
  unfold seed
  iintro ⟨#Hctx, Hp, HW, HO⟩ Hk
  unfold sendPart
  icases Hp with ⟨Hs, Hp⟩
  unfold run
  rw [wp_bind]
  iapply (wLoad_step nt) $$ [HW]
  · iexact HW
  iintro HW
  rw [wp_bind]
  iapply (credit_part (A := A) (B := B) (K := K) (Kn := Kn) (c := c) nt t ht rfl hO) $$ [Hp HO]
  · isplitr; · iexact Hctx
    isplitl [Hp] <;> iassumption
  iintro ⟨Hp, HO⟩
  rw [wp_bind]
  iapply (slot_part (A := A) (B := B) (K := K) (Kn := Kn) (c := c) nt (par (t + 1)) t ht.le rfl (hO.mono (Nat.zero_le _))) $$ [Hs HO]
  · isplitr; · iexact Hctx
    isplitl [Hs] <;> iassumption
  iintro ⟨Hs, HO⟩
  rw [hv]
  iapply (post_part (A := A) (B := B) (K := K) (Kn := Kn) (c := c) nt t ht (O := O)) $$ [Hs Hp HO]
  · isplitr; · iexact Hctx
    isplitl [Hs]; · iexact Hs
    isplitl [Hp] <;> iassumption
  unfold sendPart
  iintro ⟨Hp, HO⟩
  iapply Hk
  isplitl [Hp]; · iexact Hp
  isplitl [HW] <;> iassumption

theorem fwd_tile (nt : Fin 8) (t : ℕ) (ht : t < 5) (k : Fin 8) (cr : Option ℕ) (hcr : cr = if t < 4 then some t else none)
    (hv : roundV (totV (oBlk A c k) (wTile B c nt) (sent A B t (prvD c) nt)) = sent A B (t + 1) c nt)
    {O : CellTallies nD τ sig ℕ} (hO : Above (2 * t + 2) (O + owedSend c nt (some (t + 1)) + owedCred c nt cr)) {Kt : PUnit → sProp 𝕄} :
    iprop(ctx A B K Kn ∗ (sendPart c nt (t + 1) ∗ recvPart c nt t) ∗ ownd c mW (B c) ∗ ow c (O + owedSend c nt (some (t + 1)) + owedCred c nt cr))
      ⊢ iprop((((sendPart c nt (t + 2) ∗ recvPart c nt (t + 1)) ∗ ownd c mW (B c) ∗ ow c O) -∗ Kt ⟨⟩) -∗ run c (fwd c t (oBlk A c k) nt) Kt) := by
  unfold fwd
  iintro ⟨#Hctx, ⟨Hp, Hr⟩, HW, HO⟩ Hk
  unfold run
  rw [wp_bind]
  iapply (wLoad_step nt) $$ [HW]
  · iexact HW
  iintro HW
  iapply (recv_part (A := A) (B := B) (K := K) (Kn := Kn) (c := c) nt t (by omega) hcr hO
    (fun r => when (Nat.ble 1 t) (credWait nt) >>= fun _ => sendWait nt (par t) >>= fun _ =>
      sendStore nt (roundV (totV (oBlk A c k) (wTile B c nt) r)) >>= fun _ => sendStart c nt (par (t + 1)))) $$ [Hr HO]
  · isplitr; · iexact Hctx
    isplitl [Hr] <;> iassumption
  iintro ⟨Hr, HO⟩
  have hO' := hO.of_add
  unfold sendPart
  icases Hp with ⟨Hs, Hp⟩
  rw [hv]
  unfold run
  rw [wp_bind]
  iapply (credit_part (A := A) (B := B) (K := K) (Kn := Kn) (c := c) nt (t + 1) (by omega) (b := Nat.ble 1 t) rfl hO') $$ [Hp HO]
  · isplitr; · iexact Hctx
    isplitl [Hp] <;> iassumption
  iintro ⟨Hp, HO⟩
  rw [wp_bind]
  iapply (slot_part (A := A) (B := B) (K := K) (Kn := Kn) (c := c) nt (par t) (t + 1) (by omega) (b := true) rfl (hO'.mono (Nat.zero_le _))) $$ [Hs HO]
  · isplitr; · iexact Hctx
    isplitl [Hs] <;> iassumption
  iintro ⟨Hs, HO⟩
  iapply (post_part (A := A) (B := B) (K := K) (Kn := Kn) (c := c) nt (t + 1) (by omega) (O := O)) $$ [Hs Hp HO]
  · isplitr; · iexact Hctx
    isplitl [Hs]; · iexact Hs
    isplitl [Hp] <;> iassumption
  unfold sendPart
  iintro ⟨Hp, HO⟩
  iapply Hk
  isplitl [Hp Hr]
  · isplitl [Hp] <;> iassumption
  isplitl [HW] <;> iassumption

/-! ## The output -/

/-- Copy `k` out: its slot is made free, filled and copied. -/
theorem out_part (k : ℕ) (hk : k < 16) (sub : Fin 2) (nt : Fin 8) (hs : sub2 k = sub) (hn : num8 k = nt) (hp : par nt.val = par k)
    {O : CellTallies nD τ sig ℕ} (hO : Above 0 O) {Kt : PUnit → sProp 𝕄} :
    iprop(ctx A B K Kn ∗ outPart A B c k ∗ ow c O)
      ⊢ iprop(((outPart A B c (k + 1) ∗ ow c O) -∗ Kt ⟨⟩)
          -∗ run c (when (Nat.ble 2 k) (outWait sub nt (par nt.val)) >>= fun _ => outStore (par nt.val) (res A B c sub nt) >>= fun _ =>
            outStart sub nt (par nt.val)) Kt) := by
  rw [hp]
  subst hs hn
  have hslot : bigSep Finset.univ (fun s : Fin 2 => outSlot (F := F) c s ((k + 1 - s.val) / 2))
      ⊢ iprop(outSlot c (par k) (k / 2) ∗ (outSlot c (par k) (k / 2 + 1) -∗ bigSep Finset.univ (fun s : Fin 2 => outSlot c s ((k + 1 + 1 - s.val) / 2)))) := by
    have h0 : (k + 1 - k % 2) / 2 = k / 2 := by omega
    have h1 : (k + 1 + 1 - k % 2) / 2 = k / 2 + 1 := by omega
    have h := bigSep_univ_update (Φ := fun s : Fin 2 => outSlot (F := F) c s ((k + 1 - s.val) / 2))
      (Ψ := fun s : Fin 2 => outSlot (F := F) c s ((k + 1 + 1 - s.val) / 2)) (par k) (fun s hs => by
        have h2 : s.val < 2 := s.isLt
        have h3 : s.val ≠ k % 2 := fun h => hs (Fin.ext h)
        rw [show (k + 1 - s.val) / 2 = (k + 1 + 1 - s.val) / 2 by omega])
    dsimp only at h
    rwa [h0, h1] at h
  have hwait {Kt' : PUnit → sProp 𝕄} : iprop(ctx A B K Kn ∗ outSlot c (par k) (k / 2) ∗ bigSep (Finset.range (k - 2)) (outDone A B c) ∗ ow c O)
      ⊢ iprop(((outFree c (par k) (k / 2) ∗ bigSep (Finset.range (k + 1 - 2)) (outDone A B c) ∗ ow c O) -∗ Kt' ⟨⟩)
          -∗ run c (when (Nat.ble 2 k) (outWait (sub2 k) (num8 k) (par k))) Kt') := by
    unfold when outSlot
    by_cases h : 2 ≤ k
    · have hp2 : par (k - 2) = par k := Fin.ext (by show (k - 2) % 2 = k % 2; omega)
      have hd : (k - 2) / 2 + 1 = k / 2 := by omega
      have hk2 : 2 * (k / 2 - 1) + k % 2 = k - 2 := by omega
      rw [Nat.ble_eq_true_of_le h, cond_true, if_neg (by omega), hk2, show k + 1 - 2 = k - 2 + 1 by omega, bigSep_range_succ]
      have hw := outWait_step (A := A) (B := B) (K := K) (Kn := Kn) (c := c) (k - 2) (by omega) (sub2 k) (num8 k) hO (Kt := Kt')
      rw [hp2, hd] at hw
      iintro ⟨#Hctx, Hs, Hd, HO⟩ Hk
      iapply hw $$ [Hs HO]
      · isplitr; · iexact Hctx
        isplitl [Hs] <;> iassumption
      iintro ⟨Hs, Hd', HO⟩
      iapply Hk
      isplitl [Hs]; · iexact Hs
      isplitr [HO]
      · isplitl [Hd'] <;> iassumption
      iexact HO
    · rw [show Nat.ble 2 k = false from by rw [Bool.eq_false_iff]; exact fun h' => h (Nat.le_of_ble_eq_true h'), cond_false,
        if_pos (by omega), show k / 2 = 0 by omega, show k + 1 - 2 = k - 2 by omega]
      iintro ⟨-, H⟩ Hk
      iapply (le_wp_ret _ _ _ PUnit.unit)
      iapply Hk
      iexact H
  unfold outPart run
  rw [wp_bind]
  iintro ⟨#Hctx, ⟨Hsl, Ht, Hd⟩, HO⟩ Hk
  ihave Hsl := hslot $$ Hsl
  icases Hsl with ⟨Hs, Hsl⟩
  iapply hwait $$ [Hs Hd HO]
  · isplitr; · iexact Hctx
    isplitl [Hs]; · iexact Hs
    isplitl [Hd] <;> iassumption
  unfold outFree
  iintro ⟨⟨Hs, Hat⟩, Hd, HO⟩
  rw [wp_bind]
  iapply (outStore_step (par k) (res A B c (sub2 k) (num8 k))) $$ [Hs]
  · iexact Hs
  iintro Hs
  ihave Ht := (pop hk _) $$ Ht
  icases Ht with ⟨Ht0, Ht⟩
  iapply (outStart_step (A := A) (B := B) (K := K) (Kn := Kn) (c := c) k hk) $$ [Hs Hat Ht0]
  · isplitr; · iexact Hctx
    isplitl [Hs]; · iexact Hs
    isplitl [Hat] <;> iassumption
  iintro Hb
  iapply Hk
  isplitr [HO]
  · isplitl [Hsl Hb]
    · iapply Hsl
      unfold outSlot
      rw [if_neg (Nat.succ_ne_zero _), Nat.add_sub_cancel, two_half_par]
      iexact Hb
    isplitl [Ht] <;> iassumption
  iexact HO

theorem fin_tile (sub : Fin 2) (nt : Fin 8) (t : ℕ) (ht : t < 6) (k : Fin 8) (cr : Option ℕ) (hcr : cr = if t < 4 then some t else none)
    (hv : totV (oBlk A c k) (wTile B c nt) (sent A B t (prvD c) nt) = res A B c sub nt)
    {O : CellTallies nD τ sig ℕ} (hO : Above (2 * t + 2) (O + owedCred c nt cr)) {Kt : PUnit → sProp 𝕄} :
    iprop(ctx A B K Kn ∗ recvPart c nt t ∗ outPart A B c (8 * sub.val + nt.val) ∗ ownd c mW (B c) ∗ ow c (O + owedCred c nt cr))
      ⊢ iprop(((recvPart c nt (t + 1) ∗ outPart A B c (8 * sub.val + nt.val + 1) ∗ ownd c mW (B c) ∗ ow c O) -∗ Kt ⟨⟩)
          -∗ run c (fin c t sub (oBlk A c k) nt) Kt) := by
  have h8 : nt.val < 8 := nt.isLt
  have h2 : sub.val < 2 := sub.isLt
  unfold fin
  iintro ⟨#Hctx, Hr, Ho, HW, HO⟩ Hk
  unfold run
  rw [wp_bind]
  iapply (wLoad_step nt) $$ [HW]
  · iexact HW
  iintro HW
  iapply (recv_part (A := A) (B := B) (K := K) (Kn := Kn) (c := c) nt t ht hcr hO
    (fun r => when (Nat.ble 2 (8 * sub.val + nt.val)) (outWait sub nt (par nt.val)) >>= fun _ =>
      outStore (par nt.val) (totV (oBlk A c k) (wTile B c nt) r) >>= fun _ => outStart sub nt (par nt.val))) $$ [Hr HO]
  · isplitr; · iexact Hctx
    isplitl [Hr] <;> iassumption
  iintro ⟨Hr, HO⟩
  rw [hv]
  iapply (out_part (A := A) (B := B) (K := K) (Kn := Kn) (c := c) (8 * sub.val + nt.val) (by omega) sub nt
    (Fin.ext (by show (8 * sub.val + nt.val) / 8 % 2 = sub.val; omega)) (Fin.ext (by show (8 * sub.val + nt.val) % 8 = nt.val; omega))
    (Fin.ext (by show nt.val % 2 = (8 * sub.val + nt.val) % 2; omega)) (hO.of_add.mono (Nat.zero_le _))) $$ [Ho HO]
  · isplitr; · iexact Hctx
    isplitl [Ho] <;> iassumption
  iintro ⟨Ho, HO⟩
  iapply Hk
  isplitl [Hr]; · iexact Hr
  isplitl [Ho]; · iexact Ho
  isplitl [HW] <;> iassumption

/-! ## Eight tiles in order -/

theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, bigSep_insert (by decide), bigSep_insert (by decide),
    bigSep_insert (by decide), bigSep_insert (by decide), bigSep_insert (by decide), bigSep_insert (by decide), bigSep_insert (by decide),
    bigSep_singleton]
  rfl

theorem tiles_run (f : Fin 8 → P (F := F) PUnit) (R : sProp 𝕄) [BI.Persistent R] (Φ Ψ : Fin 8 → sProp 𝕄) (C : ℕ → sProp 𝕄)
    (h : ∀ (nt : Fin 8) (Kt : PUnit → sProp 𝕄),
      iprop(R ∗ Φ nt ∗ C nt.val) ⊢ iprop(((Ψ nt ∗ C (nt.val + 1)) -∗ Kt ⟨⟩) -∗ run c (f nt) Kt)) {Kt : PUnit → sProp 𝕄} :
    iprop(R ∗ bigSep Finset.univ Φ ∗ C 0) ⊢ iprop(((bigSep Finset.univ Ψ ∗ C 8) -∗ Kt ⟨⟩) -∗ run c (tiles f) Kt) := by
  have h' (nt : Fin 8) (m m' : ℕ) (hm : nt.val = m) (hm' : m + 1 = m') (Kt : PUnit → sProp 𝕄) :
      iprop(R ∗ Φ nt ∗ C m) ⊢ iprop(((Ψ nt ∗ C m') -∗ Kt ⟨⟩) -∗ run c (f nt) Kt) := by
    subst hm hm'; exact h nt Kt
  unfold tiles run
  simp only [wp_bind]
  rw [eight, eight]
  iintro ⟨#HR, ⟨H0, H1, H2, H3, H4, H5, H6, H7⟩, HC⟩ Hk
  iapply (h' 0 0 1 rfl rfl _) $$ [H0 HC]
  · isplitr; · iexact HR
    isplitl [H0] <;> iassumption
  iintro ⟨H0, HC⟩
  iapply (h' 1 1 2 rfl rfl _) $$ [H1 HC]
  · isplitr; · iexact HR
    isplitl [H1] <;> iassumption
  iintro ⟨H1, HC⟩
  iapply (h' 2 2 3 rfl rfl _) $$ [H2 HC]
  · isplitr; · iexact HR
    isplitl [H2] <;> iassumption
  iintro ⟨H2, HC⟩
  iapply (h' 3 3 4 rfl rfl _) $$ [H3 HC]
  · isplitr; · iexact HR
    isplitl [H3] <;> iassumption
  iintro ⟨H3, HC⟩
  iapply (h' 4 4 5 rfl rfl _) $$ [H4 HC]
  · isplitr; · iexact HR
    isplitl [H4] <;> iassumption
  iintro ⟨H4, HC⟩
  iapply (h' 5 5 6 rfl rfl _) $$ [H5 HC]
  · isplitr; · iexact HR
    isplitl [H5] <;> iassumption
  iintro ⟨H5, HC⟩
  iapply (h' 6 6 7 rfl rfl _) $$ [H6 HC]
  · isplitr; · iexact HR
    isplitl [H6] <;> iassumption
  iintro ⟨H6, HC⟩
  iapply (h' 7 7 8 rfl rfl _) $$ [H7 HC]
  · isplitr; · iexact HR
    isplitl [H7] <;> iassumption
  iintro ⟨H7, HC⟩
  iapply Hk
  isplitr [HC]
  · isplitl [H0]; · iexact H0
    isplitl [H1]; · iexact H1
    isplitl [H2]; · iexact H2
    isplitl [H3]; · iexact H3
    isplitl [H4]; · iexact H4
    isplitl [H5]; · iexact H5
    isplitl [H6] <;> iassumption
  iexact HC

end Cert.KernelIdeal.Steps
-- ==== Proof.Phases.lean ====
/-
  The body on one device: its phases one after another, from what the device starts with to what
  it ends with.
-/
module

public import proofs.«01_k».proof.Proof.Tile

@[expose] public section

noncomputable section

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

section State

variable (A : Dev nD → S2x2048x1024.Idx → Elt F .bf16) (B : Dev nD → S1024x4096.Idx → Elt F .bf16) (c : Dev nD)

/-- All tiles' sending sides, and all their receiving sides. -/
def sends (n : ℕ) : sProp 𝕄 := bigSep Finset.univ (fun nt : Fin 8 => sendPart c nt n)
def recvs (m : ℕ) : sProp 𝕄 := bigSep Finset.univ (fun nt : Fin 8 => recvPart c nt m)

/-- A tile's sending side before the devices have met, -/
def sendInit (nt : Fin 8) : sProp 𝕄 :=
  iprop(sFree c nt 0 ∗ bigSep (Finset.Ico 0 6) (sendTok c nt) ∗ at_ c (.cred nt) 0
    ∗ bigSep (Finset.Ico 0 4) (fun i => cred (tallyAt (cell c (.cred nt)) i 1)))
/-- and its receiving side, the slots not yet given out. -/
def recvInit (nt : Fin 8) : sProp 𝕄 :=
  iprop(bigSep Finset.univ (fun s : Fin 2 => iprop(at_ c (.recv nt s) 0 ∗ readerAt ES (c, nt, s) 0 ∗ hole c (recv nt s)))
    ∗ bigSep (Finset.Ico 0 6) (fun t => cred (tallyAt (cell c (.recv nt (par t))) t nS))
    ∗ bigSep (Finset.Ico 0 4) (fun k => dutyTok ER (cell (prvD c) (.cred nt)) 0 (num4 k)))
/-- The receiving side with its slots given out. -/
def recvOpen (nt : Fin 8) : sProp 𝕄 :=
  iprop(bigSep Finset.univ (fun s : Fin 2 => recvSlot c nt s 0)
    ∗ bigSep (Finset.Ico 0 6) (fun t => cred (tallyAt (cell c (.recv nt (par t))) t nS))
    ∗ bigSep (Finset.Ico 0 4) (fun k => dutyTok ER (cell (prvD c) (.cred nt)) 0 (num4 k)))

/-- The barrier's part: a signal to each neighbour, and the wait for both of theirs. -/
def barInit : sProp 𝕄 :=
  iprop((dutyTok ER (cell (prvD c) .bar) 0 0 ∗ reached ER (cell (prvD c) .bar) 0)
    ∗ (dutyTok ER (cell (nxtD c) .bar) 0 1 ∗ reached ER (cell (nxtD c) .bar) 0)
    ∗ atPos ER (cell c .bar) 0 ∅ 0 ∗ cred (tallyAt (cell c .bar) 0 2))

/-- What device `c` starts the body with, -/
def pre : sProp 𝕄 :=
  iprop((oFree c 0 0 ∗ oFree c 1 0 ∗ bigSep Finset.univ (oTok A c)) ∗ bigSep Finset.univ (sendInit c) ∗ bigSep Finset.univ (recvInit c)
    ∗ outPart A B c 0 ∗ ownd c mW (B c) ∗ barInit c ∗ ow c (owed₀ c))
/-- and what it ends with. -/
def post : sProp 𝕄 :=
  iprop((oFree c 0 4 ∗ oFree c 1 4 ∗ bigSep Finset.univ (fun k : Fin 8 => ownd c (oSrc c k) (oBlk A c k)))
    ∗ bigSep Finset.univ (fun nt : Fin 8 => iprop(sFree c nt 6 ∗ sendRest c nt 6 4)) ∗ recvs c 6
    ∗ (outFree c 0 8 ∗ outFree c 1 8 ∗ bigSep (Finset.range 16) (outDone A B c)) ∗ ownd c mW (B c) ∗ at_ c .bar 1 ∗ ow c 0)

end State

variable {A : Dev nD → S2x2048x1024.Idx → Elt F .bf16} {B : Dev nD → S1024x4096.Idx → Elt F .bf16}
  {K : GSem nD τ sig → ℕ} {Kn : Key → ℕ} {c : Dev nD}

/-! ## What a tile of a phase pays -/

theorem rem_tile (p : ℕ) (hp : p < 8) (nt : Fin 8) :
    rem c (8 * p + nt.val) = rem c (8 * p + (nt.val + 1)) + owedSend c nt (sndOf p) + owedCred c nt (crdOf p) := by
  have h := nt.isLt
  rw [rem_step c (by omega), ← add_assoc (8 * p), pay, ← add_assoc (rem c (8 * p + nt.val + 1)),
    show num8 (8 * p + nt.val) = nt from Fin.ext (by show (8 * p + nt.val) % 8 = nt.val; omega), show (8 * p + nt.val) / 8 = p by omega]

theorem above_tile (p : ℕ) (nt : Fin 8) : Above (floor p) (rem c (8 * p + nt.val)) :=
  above_rem c _ p (by omega)

/-! ## The three kinds of phase -/

theorem phase_seed (p t : ℕ) (k : Fin 8) {i i' : ℕ} (hi : 8 * p = i) (hi' : 8 * p + 8 = i') (hp : p < 8) (ht : t < 6) (hs : sndOf p = some t) (hc : crdOf p = none) (hf : 2 * t ≤ floor p)
    (hv : ∀ nt, roundV (dotV (oBlk A c k) (wTile B c nt)) = sent A B t c nt) {Kt : PUnit → sProp 𝕄} :
    iprop(ctx A B K Kn ∗ sends c t ∗ ownd c mW (B c) ∗ ow c (rem c i))
      ⊢ iprop(((sends c (t + 1) ∗ ownd c mW (B c) ∗ ow c (rem c i')) -∗ Kt ⟨⟩) -∗ run c (tiles (seed c t (oBlk A c k))) Kt) := by
  subst hi hi'
  refine tiles_run (seed c t (oBlk A c k)) (ctx A B K Kn) (fun nt => sendPart c nt t) (fun nt => sendPart c nt (t + 1))
    (fun i => iprop(ownd c mW (B c) ∗ ow c (rem c (8 * p + i)))) fun nt Kt => ?_
  have ho := above_tile (c := c) p nt
  rw [rem_tile p hp nt, hs, hc, show owedCred c nt none = 0 from rfl, add_zero] at ho
  rw [rem_tile p hp nt, hs, hc, show owedCred c nt none = 0 from rfl, add_zero]
  exact seed_tile nt t ht k (hv nt) (ho.mono hf)

theorem phase_fwd (p t : ℕ) (k : Fin 8) {i i' : ℕ} (hi : 8 * p = i) (hi' : 8 * p + 8 = i') (hp : p < 8) (ht : t < 5) (hs : sndOf p = some (t + 1)) (hc : crdOf p = if t < 4 then some t else none)
    (hf : 2 * t + 2 ≤ floor p)
    (hv : ∀ nt, roundV (totV (oBlk A c k) (wTile B c nt) (sent A B t (prvD c) nt)) = sent A B (t + 1) c nt) {Kt : PUnit → sProp 𝕄} :
    iprop(ctx A B K Kn ∗ (sends c (t + 1) ∗ recvs c t) ∗ ownd c mW (B c) ∗ ow c (rem c i))
      ⊢ iprop((((sends c (t + 2) ∗ recvs c (t + 1)) ∗ ownd c mW (B c) ∗ ow c (rem c i')) -∗ Kt ⟨⟩)
          -∗ run c (tiles (fwd c t (oBlk A c k))) Kt) := by
  subst hi hi'
  unfold sends recvs
  rw [← bigSep_sep', ← bigSep_sep']
  refine tiles_run (fwd c t (oBlk A c k)) (ctx A B K Kn) (fun nt => iprop(sendPart c nt (t + 1) ∗ recvPart c nt t))
    (fun nt => iprop(sendPart c nt (t + 2) ∗ recvPart c nt (t + 1)))
    (fun i => iprop(ownd c mW (B c) ∗ ow c (rem c (8 * p + i)))) fun nt Kt => ?_
  have ho := above_tile (c := c) p nt
  rw [rem_tile p hp nt, hs] at ho
  rw [rem_tile p hp nt, hs]
  exact fwd_tile nt t ht k (crdOf p) hc (hv nt) (ho.mono hf)

theorem phase_fin (p t : ℕ) (sub : Fin 2) (k : Fin 8) {i i' m m' : ℕ} (hi : 8 * p = i) (hi' : 8 * p + 8 = i') (hm : 8 * sub.val = m) (hm' : 8 * sub.val + 8 = m')
    (hp : p < 8) (ht : t < 6) (hs : sndOf p = none) (hc : crdOf p = if t < 4 then some t else none)
    (hf : 2 * t + 2 ≤ floor p)
    (hv : ∀ nt, totV (oBlk A c k) (wTile B c nt) (sent A B t (prvD c) nt) = res A B c sub nt) {Kt : PUnit → sProp 𝕄} :
    iprop(ctx A B K Kn ∗ recvs c t ∗ outPart A B c m ∗ ownd c mW (B c) ∗ ow c (rem c i))
      ⊢ iprop(((recvs c (t + 1) ∗ outPart A B c m' ∗ ownd c mW (B c) ∗ ow c (rem c i')) -∗ Kt ⟨⟩)
          -∗ run c (tiles (fin c t sub (oBlk A c k))) Kt) := by
  subst hi hi' hm hm'
  refine tiles_run (fin c t sub (oBlk A c k)) (ctx A B K Kn) (fun nt => recvPart c nt t) (fun nt => recvPart c nt (t + 1))
    (fun i => iprop(outPart A B c (8 * sub.val + i) ∗ ownd c mW (B c) ∗ ow c (rem c (8 * p + i)))) fun nt Kt => ?_
  have ho := above_tile (c := c) p nt
  rw [rem_tile p hp nt, hs, show owedSend c nt none = 0 from rfl, add_zero] at ho
  rw [rem_tile p hp nt, hs, show owedSend c nt none = 0 from rfl, add_zero]
  exact fin_tile sub nt t ht k (crdOf p) hc (hv nt) (ho.mono hf)

/-- The last sends are waited for. -/
theorem phase_last {Kt : PUnit → sProp 𝕄} :
    iprop(ctx A B K Kn ∗ sends c 6 ∗ ow c 0)
      ⊢ iprop(((bigSep Finset.univ (fun nt : Fin 8 => iprop(sFree c nt 6 ∗ sendRest c nt 6 4)) ∗ ow c 0) -∗ Kt ⟨⟩)
          -∗ run c (tiles (fun nt => sendWait nt 1)) Kt) := by
  refine tiles_run (fun nt => sendWait nt 1) (ctx A B K Kn) (fun nt => sendPart c nt 6) (fun nt => iprop(sFree c nt 6 ∗ sendRest c nt 6 4))
    (fun _ => ow c 0) fun nt Kt => ?_
  unfold sendPart
  iintro ⟨#Hctx, ⟨Hs, Hr⟩, HO⟩ Hk
  iapply (slot_part (A := A) (B := B) (K := K) (Kn := Kn) (c := c) nt 1 6 le_rfl (b := true) rfl (Above.zero 0)) $$ [Hs HO]
  · isplitr; · iexact Hctx
    isplitl [Hs] <;> iassumption
  iintro ⟨Hs, HO⟩
  iapply Hk
  isplitr [HO]
  · isplitl [Hs]; · iexact Hs
    iexact Hr
  iexact HO

/-! ## Blocks of `O` -/

theorem oNext_step (k k' : Fin 8) (hk : k'.val = k.val + 2) {O : CellTallies nD τ sig ℕ} (hO : Above 0 O) {Kt : FVec F S2x256x1024 .bf16 → sProp 𝕄} :
    iprop(ctx A B K Kn ∗ oBusy c k ∗ oTok A c k' ∗ ow c O)
      ⊢ iprop(((oBusy c k' ∗ ownd c (oSrc c k) (oBlk A c k) ∗ ow c O) -∗ Kt (oBlk A c k)) -∗ run c (oNext c k k') Kt) := by
  have hp : par k.val = par k'.val := Fin.ext (by show k.val % 2 = k'.val % 2; omega)
  have hd : k.val / 2 + 1 = k'.val / 2 := by omega
  unfold oNext run
  rw [wp_bind]
  iintro ⟨#Hctx, Hb, Ht, HO⟩ Hk
  iapply (oLoad_step (A := A) (B := B) (K := K) (Kn := Kn) (c := c) k hO) $$ [Hb HO]
  · isplitr; · iexact Hctx
    isplitl [Hb] <;> iassumption
  rw [hp, hd]
  iintro ⟨Hf, Hs, HO⟩
  rw [wp_bind]
  iapply (oStart_step (A := A) (B := B) (K := K) (Kn := Kn) (c := c) k') $$ [Hf Ht]
  · isplitr; · iexact Hctx
    isplitl [Hf] <;> iassumption
  iintro Hb
  iapply (le_wp_ret _ _ _ (oBlk A c k))
  iapply Hk
  isplitl [Hb]; · iexact Hb
  isplitl [Hs] <;> iassumption

/-! ## The devices meet -/

theorem two (Φ : Fin 2 → sProp 𝕄) : bigSep Finset.univ Φ = iprop(Φ 0 ∗ Φ 1) := bigSep_fin_two Φ

/-- A tile's receive slots are given out for their first transfers. -/
theorem open_one (nt : Fin 8) :
    iprop(ctx A B K Kn ∗ recvInit c nt) ⊢ (|={Set.univ}=> (recvOpen c nt ∗ facts c nt 2) : sProp 𝕄) := by
  have hs (s : Fin 2) (m : ℕ) (hm : s.val = m) : iprop(ctx A B K Kn ∗ at_ c (.recv nt s) 0 ∗ readerAt ES (c, nt, s) 0 ∗ hole c (recv nt s))
      ⊢ (|={Set.univ}=> (recvSlot c nt s 0 ∗ fact c nt m) : sProp 𝕄) := by
    have hlt := s.isLt
    unfold recvSlot fact
    rw [show par m = s from Fin.ext (by show m % 2 = s.val; omega), show m / 2 = 0 by omega]
    iintro ⟨#Hctx, ⟨Hat, #Hr⟩, Hrd, Hh⟩
    imod (slot_release ES (Set.mem_univ (Kn (c, nt, s))) (slot_slot_false (ℓ := (recv nt s).view.loc (c : Thread nD τ)) (I := (recv nt s).view.set) (view_set_nonempty nt s)) 0) $$ [Hrd Hh] with ⟨Hrd, #Hrel⟩
    · isplitr; · iapply (ctx_slot A B K Kn (c, nt, s)); iexact Hctx
      isplitl [Hrd] <;> iassumption
    imodintro
    rw [if_pos (by omega)]
    isplitl [Hat Hrd]
    · isplitl [Hat]; · iexact Hat
      isplitl [Hrd]; · iexact Hrd
      iempintro
    isplitr; · iexact Hrel
    iexact Hr
  unfold recvInit recvOpen
  rw [two, two]
  iintro ⟨#Hctx, ⟨H0, H1⟩, Hc, Hd⟩
  imod (hs 0 0 rfl) $$ [H0] with ⟨H0, #Hf0⟩
  · isplitr; · iexact Hctx
    iexact H0
  imod (hs 1 1 rfl) $$ [H1] with ⟨H1, #Hf1⟩
  · isplitr; · iexact Hctx
    iexact H1
  imodintro
  isplitl
  · isplitl [H0 H1]
    · isplitl [H0] <;> iassumption
    isplitl [Hc] <;> iassumption
  iapply (facts_succ c nt 1)
  isplitl
  · iapply (facts_succ c nt 0)
    isplitl
    · unfold facts; rw [Finset.range_zero, bigSep_empty]; iempintro
    · iexact Hf0
  iexact Hf1

theorem open_all :
    iprop(ctx A B K Kn ∗ bigSep Finset.univ (recvInit c))
      ⊢ (|={Set.univ}=> (bigSep Finset.univ (recvOpen c) ∗ bigSep Finset.univ (fun nt : Fin 8 => facts c nt 2)) : sProp 𝕄) := by
  rw [← bigSep_sep']
  exact (bigSep_with_persistent fun nt _ => open_one nt).trans (bigSep_fupd _ _)

/-- The wait for both neighbours. -/
theorem bar_wait {O : CellTallies nD τ sig ℕ} (hO : Above 1 O) {Kt : PUnit → sProp 𝕄} :
    iprop(ctx A B K Kn ∗ cred (tallyAt (cell c .bar) 0 2) ∗ ow c O ∗ atPos ER (cell c .bar) 0 ∅ 0)
      ⊢ iprop(((ow c O ∗ at_ c .bar 1 ∗ bigSep Finset.univ (fun nt : Fin 8 => facts (nxtD c) nt 2)
            ∗ bigSep Finset.univ (fun nt : Fin 8 => reached ER (cell (prvD c) (.cred nt)) 0)) -∗ Kt ⟨⟩)
          -∗ run c (semWaitWord bar 2#32) Kt) := by
  have hdut : (Rd A B).duties (cell c .bar) 0 = {0, 1} := by
    rw [duties_cell]; dsimp only [dutiesK]; exact if_pos Nat.one_pos
  have hexp : (Rd A B).expect (cell c .bar) 0 = 2 := by
    rw [expect_cell]; rfl
  have hpay : bigSep ((Rd A B).duties ((c : Thread nD τ), SemLoc.reg bar) 0 \ ∅) (fun d => (Rd A B).payload ((c : Thread nD τ), SemLoc.reg bar) 0 d)
      ⊢ (iprop(bigSep Finset.univ (fun nt : Fin 8 => facts (nxtD c) nt 2)
            ∗ bigSep Finset.univ (fun nt : Fin 8 => reached ER (cell (prvD c) (.cred nt)) 0)) : sProp 𝕄) := by
    show bigSep ((Rd A B).duties (cell c .bar) 0 \ ∅) (fun d => (Rd A B).payload (cell c .bar) 0 d) ⊢ _
    rw [hdut, Finset.sdiff_empty, bigSep_insert (by decide), bigSep_singleton, payload_cell, payload_cell]
    exact .rfl
  unfold ow
  iintro ⟨#Hctx, Hc, ⟨%W, HO⟩, Hat⟩ Hk
  iapply (Rounds.wp_wait_rest_token 𝒱₀ ER (Rd A B) (c : Thread nD τ) none (κ := K (cell c .bar)) (sm := .reg bar) (k' := 2) (k := Prog.ret)
      (wpE_semWait_eq 𝒱₀ (c : Thread nD τ) none Set.univ) (Set.mem_univ _) 0 (O := O) (W := W) (R := 0) (m := 0) (T := ∅)
      hexp.symm) $$ [Hc HO Hat]
  · isplitr; · iapply (ctx_cell A B K Kn c .bar); iexact Hctx
    isplitl [Hc]; · iexact Hc
    isplitl [HO]; · iexact HO
    isplitr; · iapply (mayWait_of .bar 0 (by omega) hO); iexact Hctx
    iexact Hat
  iintro ⟨HO, Hat, Hr, Hpay⟩
  ihave Hpay := hpay $$ Hpay
  icases Hpay with ⟨Hp, Hq⟩
  rw [wp_ret]
  imodintro
  iapply Hk
  isplitl [HO]; · iexists _; iexact HO
  isplitl [Hat Hr]
  · isplitl [Hat]; · iexact Hat
    iexact Hr
  isplitl [Hp] <;> iassumption

/-- What the neighbours told completes the tiles' states. -/
theorem sends_init :
    iprop(bigSep Finset.univ (fun nt : Fin 8 => facts (nxtD c) nt 2) ∗ bigSep Finset.univ (sendInit c)) ⊢ (sends c 0 : sProp 𝕄) := by
  unfold sends
  rw [← bigSep_sep']
  refine bigSep_mono fun nt _ => (?_ : iprop(facts (nxtD c) nt 2 ∗ sendInit c nt) ⊢ sendPart c nt 0)
  unfold sendInit sendPart sendSlot sendRest credS
  rw [if_pos rfl, if_pos (by omega)]
  iintro ⟨#Hf, Hs, Ht, ⟨Hat, -⟩, Hc⟩
  isplitl [Hs]; · iexact Hs
  isplitl [Ht]; · iexact Ht
  isplitl [Hat]
  · isplitl [Hat]
    · iexists ∅
      isplitl [Hat]; · iexact Hat
      rw [bigSep_empty]
      iempintro
    iexact Hf
  iexact Hc

theorem recvs_init :
    iprop(bigSep Finset.univ (recvOpen c) ∗ bigSep Finset.univ (fun nt : Fin 8 => facts c nt 2)
        ∗ bigSep Finset.univ (fun nt : Fin 8 => reached ER (cell (prvD c) (.cred nt)) 0)) ⊢ (recvs c 0 : sProp 𝕄) := by
  unfold recvs
  rw [← bigSep_sep', ← bigSep_sep']
  refine bigSep_mono fun nt _ =>
    (?_ : iprop(recvOpen c nt ∗ facts c nt 2 ∗ reached ER (cell (prvD c) (.cred nt)) 0) ⊢ recvPart c nt 0)
  unfold recvOpen recvPart
  have h : (fun s : Fin 2 => recvSlot (F := F) c nt s ((0 + 1 - s.val) / 2)) = fun s => recvSlot c nt s 0 :=
    funext fun s => congrArg (recvSlot c nt s) (by have := s.isLt; omega)
  rw [h]
  iintro ⟨⟨Hs, Hc, Hd⟩, Hf, Hr⟩
  isplitl [Hs]; · iexact Hs
  isplitl [Hc]; · iexact Hc
  isplitl [Hd]; · iexact Hd
  isplitl [Hf]; · iexact Hf
  iexact Hr

theorem sends_reached :
    bigSep Finset.univ (sendInit c)
      ⊢ (iprop(bigSep Finset.univ (fun nt : Fin 8 => reached ER (cell c (.cred nt)) 0) ∗ bigSep Finset.univ (sendInit c)) : sProp 𝕄) := by
  rw [← bigSep_sep']
  refine bigSep_mono fun nt _ => (?_ : sendInit c nt ⊢ iprop(reached ER (cell c (.cred nt)) 0 ∗ sendInit c nt))
  unfold sendInit
  iintro ⟨Hs, Ht, ⟨Hat, #Hr⟩, Hc⟩
  isplitr; · iexact Hr
  isplitl [Hs]; · iexact Hs
  isplitl [Ht]; · iexact Ht
  isplitl [Hat]
  · isplitl [Hat]; · iexact Hat
    iexact Hr
  iexact Hc

theorem device_run {Kt : Dev nD → sProp 𝕄} : Kt c ⊢ run c (Prog.lift .deviceId) Kt := by
  show Kt c ⊢ wp frame (wpE (defs₀ (F := F)) 𝒱₀ (c : Thread nD τ) none) Set.univ (.op .deviceId Prog.ret) Kt
  rw [wp_deviceId, wp_ret]
  iintro H
  imodintro
  iexact H

/-- All copies have started: the last two are on their way. -/
theorem out_end : outPart A B c 16 ⊢ iprop(outBusy c 14 ∗ outBusy c 15 ∗ bigSep (Finset.range 14) (outDone A B c)) := by
  have h (s : Fin 2) (j : ℕ) (hj : 14 + s.val = j) : outSlot (F := F) c s ((16 + 1 - s.val) / 2) = outBusy c j := by
    have hlt := s.isLt
    unfold outSlot
    rw [if_neg (by omega), show 2 * ((16 + 1 - s.val) / 2 - 1) + s.val = j by omega]
  unfold outPart
  rw [two, h 0 14 rfl, h 1 15 rfl]
  iintro ⟨⟨H0, H1⟩, -, Hd⟩
  isplitl [H0]; · iexact H0
  isplitl [H1] <;> iassumption

theorem out_all (Φ : ℕ → sProp 𝕄) : iprop(bigSep (Finset.range 14) Φ ∗ Φ 14 ∗ Φ 15) ⊢ bigSep (Finset.range 16) Φ := by
  rw [bigSep_range_succ 15, bigSep_range_succ 14]
  iintro ⟨H, H14, H15⟩
  isplitl [H15]; · iexact H15
  isplitl [H14] <;> iassumption

/-! ## The body -/

theorem body_run {Kt : PUnit → sProp 𝕄} :
    iprop(ctx A B K Kn ∗ pre A B c) ⊢ iprop((post A B c -∗ Kt ⟨⟩) -∗ run c (body (F := F)) Kt) := by
  have hp0 : payK A B (prvD c) .bar 0 0 = bigSep Finset.univ (fun nt : Fin 8 => facts c nt 2) := by
    dsimp only [payK]; rw [if_pos rfl, nxt_prv]
  have hp1 : payK A B (nxtD c) .bar 0 1 = bigSep Finset.univ (fun nt : Fin 8 => reached ER (cell c (.cred nt)) 0) := by
    dsimp only [payK]; rw [if_neg (by decide), prv_nxt]
  have hdut (j : Fin 4) (hj : j = 0 ∨ j = 1) : j ∈ dutiesK .bar 0 := by
    dsimp only [dutiesK]; rw [if_pos Nat.one_pos]; rcases hj with rfl | rfl <;> decide
  have ab (i : ℕ) : Above 0 (rem c i) := (above_rem c i 0 (Nat.zero_le _)).mono (Nat.zero_le _)
  unfold pre barInit body run owed₀
  rw [eight (oTok A c)]
  iintro ⟨#Hctx, ⟨⟨Ho0, Ho1, T0, T1, T2, T3, T4, T5, T6, T7⟩, Hsi, Hri, Hout, HW, ⟨⟨Hd0, #Hr0⟩, ⟨Hd1, #Hr1⟩, Hat, Hcr⟩, HO⟩⟩ Hk
  imod open_all $$ [Hri] with ⟨Hri, #Hfacts⟩
  · isplitr; · iexact Hctx
    iexact Hri
  ihave Hsi := sends_reached $$ Hsi
  icases Hsi with ⟨#Hreach, Hsi⟩
  rw [wp_bind]
  iapply device_run
  -- the first two loads
  rw [wp_bind]
  iapply (oStart_step (A := A) (B := B) (K := K) (Kn := Kn) (c := c) 0) $$ [Ho0 T0]
  · isplitr; · iexact Hctx
    isplitl [Ho0]; · iexact Ho0
    iexact T0
  iintro Ho0
  rw [wp_bind]
  iapply (oStart_step (A := A) (B := B) (K := K) (Kn := Kn) (c := c) 1) $$ [Ho1 T1]
  · isplitr; · iexact Hctx
    isplitl [Ho1]; · iexact Ho1
    iexact T1
  iintro Ho1
  -- the neighbours
  rw [wp_bind]
  iapply (signal_one (A := A) (B := B) (K := K) (Kn := Kn) (c := c) (prvD c) .bar 0 0 rfl (hdut 0 (.inl rfl)) rfl) $$ [HO Hd0]
  · isplitr; · iexact Hctx
    isplitl [HO]; · iexact HO
    isplitl [Hd0]; · iexact Hd0
    rw [hp0]
    isplitr; · iexact Hfacts
    iexact Hr0
  iintro HO
  rw [wp_bind]
  iapply (signal_one (A := A) (B := B) (K := K) (Kn := Kn) (c := c) (nxtD c) .bar 0 1 rfl (hdut 1 (.inr rfl)) rfl) $$ [HO Hd1]
  · isplitr; · iexact Hctx
    isplitl [HO]; · iexact HO
    isplitl [Hd1]; · iexact Hd1
    rw [hp1]
    isplitr; · iexact Hreach
    iexact Hr1
  iintro HO
  rw [wp_bind]
  iapply (bar_wait (A := A) (B := B) (K := K) (Kn := Kn) (c := c) (above_rem c 0 0 le_rfl)) $$ [Hcr HO Hat]
  · isplitr; · iexact Hctx
    isplitl [Hcr]; · iexact Hcr
    isplitl [HO] <;> iassumption
  iintro ⟨HO, Hbar, Hp, Hq⟩
  ihave Hs := sends_init $$ [Hp Hsi]
  · isplitl [Hp] <;> iassumption
  ihave Hr := recvs_init $$ [Hri Hq]
  · isplitl [Hri]; · iexact Hri
    isplitr; · iexact Hfacts
    iexact Hq
  -- phase 0
  rw [wp_bind]
  iapply (oNext_step (A := A) (B := B) (K := K) (Kn := Kn) (c := c) 0 2 rfl (ab 0)) $$ [Ho0 T2 HO]
  · isplitr; · iexact Hctx
    isplitl [Ho0]; · iexact Ho0
    isplitl [T2] <;> iassumption
  iintro ⟨Ho0, S0, HO⟩
  rw [wp_bind]
  iapply (phase_seed (A := A) (B := B) (K := K) (Kn := Kn) (c := c) 0 0 0 (i := 0) (i' := 8) rfl rfl (by omega) (by omega) rfl rfl (by decide) (fun _ => rfl)) $$ [Hs HW HO]
  · isplitr; · iexact Hctx
    isplitl [Hs]; · iexact Hs
    isplitl [HW] <;> iassumption
  iintro ⟨Hs, HW, HO⟩
  -- phase 1
  rw [wp_bind]
  iapply (oNext_step (A := A) (B := B) (K := K) (Kn := Kn) (c := c) 1 3 rfl (ab 8)) $$ [Ho1 T3 HO]
  · isplitr; · iexact Hctx
    isplitl [Ho1]; · iexact Ho1
    isplitl [T3] <;> iassumption
  iintro ⟨Ho1, S1, HO⟩
  rw [wp_bind]
  iapply (phase_fwd (A := A) (B := B) (K := K) (Kn := Kn) (c := c) 1 0 1 (i := 8) (i' := 16) rfl rfl (by omega) (by omega) rfl rfl (by decide) (fun _ => rfl)) $$ [Hs Hr HW HO]
  · isplitr; · iexact Hctx
    isplitl [Hs Hr]; · isplitl [Hs] <;> iassumption
    isplitl [HW] <;> iassumption
  iintro ⟨⟨Hs, Hr⟩, HW, HO⟩
  -- phase 2
  rw [wp_bind]
  iapply (oNext_step (A := A) (B := B) (K := K) (Kn := Kn) (c := c) 2 4 rfl (ab 16)) $$ [Ho0 T4 HO]
  · isplitr; · iexact Hctx
    isplitl [Ho0]; · iexact Ho0
    isplitl [T4] <;> iassumption
  iintro ⟨Ho0, S2, HO⟩
  rw [wp_bind]
  iapply (phase_fwd (A := A) (B := B) (K := K) (Kn := Kn) (c := c) 2 1 2 (i := 16) (i' := 24) rfl rfl (by omega) (by omega) rfl rfl (by decide) (fun _ => rfl)) $$ [Hs Hr HW HO]
  · isplitr; · iexact Hctx
    isplitl [Hs Hr]; · isplitl [Hs] <;> iassumption
    isplitl [HW] <;> iassumption
  iintro ⟨⟨Hs, Hr⟩, HW, HO⟩
  -- phase 3
  rw [wp_bind]
  iapply (oNext_step (A := A) (B := B) (K := K) (Kn := Kn) (c := c) 3 5 rfl (ab 24)) $$ [Ho1 T5 HO]
  · isplitr; · iexact Hctx
    isplitl [Ho1]; · iexact Ho1
    isplitl [T5] <;> iassumption
  iintro ⟨Ho1, S3, HO⟩
  rw [wp_bind]
  iapply (phase_seed (A := A) (B := B) (K := K) (Kn := Kn) (c := c) 3 3 3 (i := 24) (i' := 32) rfl rfl (by omega) (by omega) rfl rfl (by decide) (fun _ => rfl)) $$ [Hs HW HO]
  · isplitr; · iexact Hctx
    isplitl [Hs]; · iexact Hs
    isplitl [HW] <;> iassumption
  iintro ⟨Hs, HW, HO⟩
  -- phase 4
  rw [wp_bind]
  iapply (oNext_step (A := A) (B := B) (K := K) (Kn := Kn) (c := c) 4 6 rfl (ab 32)) $$ [Ho0 T6 HO]
  · isplitr; · iexact Hctx
    isplitl [Ho0]; · iexact Ho0
    isplitl [T6] <;> iassumption
  iintro ⟨Ho0, S4, HO⟩
  rw [wp_bind]
  iapply (phase_fin (A := A) (B := B) (K := K) (Kn := Kn) (c := c) 4 2 0 4 (i := 32) (i' := 40) (m := 0) (m' := 8) rfl rfl rfl rfl (by omega) (by omega) rfl rfl (by decide) (fun _ => rfl)) $$ [Hr Hout HW HO]
  · isplitr; · iexact Hctx
    isplitl [Hr]; · iexact Hr
    isplitl [Hout]; · iexact Hout
    isplitl [HW] <;> iassumption
  iintro ⟨Hr, Hout, HW, HO⟩
  -- phase 5
  rw [wp_bind]
  iapply (oNext_step (A := A) (B := B) (K := K) (Kn := Kn) (c := c) 5 7 rfl (ab 40)) $$ [Ho1 T7 HO]
  · isplitr; · iexact Hctx
    isplitl [Ho1]; · iexact Ho1
    isplitl [T7] <;> iassumption
  iintro ⟨Ho1, S5, HO⟩
  rw [wp_bind]
  iapply (phase_fwd (A := A) (B := B) (K := K) (Kn := Kn) (c := c) 5 3 5 (i := 40) (i' := 48) rfl rfl (by omega) (by omega) rfl rfl (by decide) (fun _ => rfl)) $$ [Hs Hr HW HO]
  · isplitr; · iexact Hctx
    isplitl [Hs Hr]; · isplitl [Hs] <;> iassumption
    isplitl [HW] <;> iassumption
  iintro ⟨⟨Hs, Hr⟩, HW, HO⟩
  -- phase 6
  rw [wp_bind]
  iapply (oLoad_step (A := A) (B := B) (K := K) (Kn := Kn) (c := c) 6 (ab 48)) $$ [Ho0 HO]
  · isplitr; · iexact Hctx
    isplitl [Ho0] <;> iassumption
  iintro ⟨Ho0, S6, HO⟩
  rw [wp_bind]
  iapply (phase_fwd (A := A) (B := B) (K := K) (Kn := Kn) (c := c) 6 4 6 (i := 48) (i' := 56) rfl rfl (by omega) (by omega) rfl rfl (by decide) (fun _ => rfl)) $$ [Hs Hr HW HO]
  · isplitr; · iexact Hctx
    isplitl [Hs Hr]; · isplitl [Hs] <;> iassumption
    isplitl [HW] <;> iassumption
  iintro ⟨⟨Hs, Hr⟩, HW, HO⟩
  -- phase 7
  rw [wp_bind]
  iapply (oLoad_step (A := A) (B := B) (K := K) (Kn := Kn) (c := c) 7 (ab 56)) $$ [Ho1 HO]
  · isplitr; · iexact Hctx
    isplitl [Ho1] <;> iassumption
  iintro ⟨Ho1, S7, HO⟩
  rw [wp_bind]
  iapply (phase_fin (A := A) (B := B) (K := K) (Kn := Kn) (c := c) 7 5 1 7 (i := 56) (i' := 64) (m := 8) (m' := 16) rfl rfl rfl rfl (by omega) (by omega) rfl rfl (by decide) (fun _ => rfl)) $$ [Hr Hout HW HO]
  · isplitr; · iexact Hctx
    isplitl [Hr]; · iexact Hr
    isplitl [Hout]; · iexact Hout
    isplitl [HW] <;> iassumption
  rw [rem_end]
  iintro ⟨Hr, Hout, HW, HO⟩
  -- the last transfers
  rw [wp_bind]
  iapply (phase_last (A := A) (B := B) (K := K) (Kn := Kn) (c := c)) $$ [Hs HO]
  · isplitr; · iexact Hctx
    isplitl [Hs] <;> iassumption
  iintro ⟨Hs, HO⟩
  ihave Hout := out_end $$ Hout
  icases Hout with ⟨Hb0, Hb1, Hdone⟩
  rw [wp_bind]
  iapply (outWait_step (A := A) (B := B) (K := K) (Kn := Kn) (c := c) 14 (by omega) 0 0 (Above.zero 0)) $$ [Hb0 HO]
  · isplitr; · iexact Hctx
    isplitl [Hb0]; · iexact Hb0
    iexact HO
  iintro ⟨Hf0, Hd14, HO⟩
  iapply (outWait_step (A := A) (B := B) (K := K) (Kn := Kn) (c := c) 15 (by omega) 0 1 (Above.zero 0)) $$ [Hb1 HO]
  · isplitr; · iexact Hctx
    isplitl [Hb1]; · iexact Hb1
    iexact HO
  iintro ⟨Hf1, Hd15, HO⟩
  iapply Hk
  unfold post
  rw [eight (fun k : Fin 8 => ownd c (oSrc c k) (oBlk A c k))]
  isplitl [Ho0 Ho1 S0 S1 S2 S3 S4 S5 S6 S7]
  · isplitl [Ho0]; · iexact Ho0
    isplitl [Ho1]; · iexact Ho1
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Hs]; · iexact Hs
  isplitl [Hr]; · iexact Hr
  isplitl [Hf0 Hf1 Hdone Hd14 Hd15]
  · isplitl [Hf0]; · iexact Hf0
    isplitl [Hf1]; · iexact Hf1
    iapply (out_all (outDone A B c))
    isplitl [Hdone]; · iexact Hdone
    isplitl [Hd14] <;> iassumption
  isplitl [HW]; · iexact HW
  isplitl [Hbar] <;> iassumption

end Cert.KernelIdeal.Steps
-- ==== Proof.Split.lean ====
module

public import proofs.«01_k».proof.Proof.Phases
public import Idealize.ShloMosaic.Lib.MemrefSat

@[expose] public section

noncomputable section

/-! # The buffers as families of slots -/

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

section Family

variable (c : Dev nD) {sp : Space} {sh : Shape} {e : EltTy} (m : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A memref at any contents is its slices at any contents, -/
theorem holes_split : hole c m ⊢ (bigSep Finset.univ (fun t => hole c (m.slice (r t) (hr t))) : sProp 𝕄) := by
  unfold hole slot
  iintro ⟨%g, H⟩
  have h : (m.view.loc (c : Thread nD τ) ↦[m.view.set]{fullShare} g : sProp 𝕄) ⊢ bigSep Finset.univ (fun t => hole c (m.slice (r t) (hr t))) :=
    (Entails.of_eq (pointsTo_rects (c : Thread nD τ) m fullShare r hr hd hcov g)).trans (bigSep_mono fun t _ => ownd_hole c (m.slice (r t) (hr t)) _)
  iapply h
  iexact H

/-- and back. -/
theorem holes_join : bigSep Finset.univ (fun t => hole c (m.slice (r t) (hr t))) ⊢ (hole c m : sProp 𝕄) := by
  have h (t : T) : hole c (m.slice (r t) (hr t)) ⊢ (ownsSat (c : Thread nD τ) (m.slice (r t) (hr t)) fullShare (fun _ => True) : sProp 𝕄) := by
    unfold hole slot ownsSat
    iintro ⟨%f, H⟩
    iexists f
    isplitr; · ipureintro; trivial
    iexact H
  refine (bigSep_mono fun t _ => h t).trans ((ownsSat_of_rects (c : Thread nD τ) m fullShare r hr hd hcov (fun _ _ => True)).trans ?_)
  unfold hole slot ownsSat
  iintro ⟨%f, -, H⟩
  iexists f
  iexact H

end Family

/-- A squeezed memref has the elements of the memref. -/
theorem hole_squeeze (c : Dev nD) {sp : Space} {s s' : Shape} {e : EltTy} (m : Memref sig .tc sp s e) (hq : s.Squeezes s') :
    hole c (m.squeeze s' hq) = (hole c m : sProp 𝕄) := by
  have hset : (m.squeeze s' hq).view.set = m.view.set := View.set_reshape _ _
  unfold hole
  rw [hset]

/-- The whole of a buffer at any contents. -/
theorem hole_whole (c : Dev nD) (b : Ref sig .tc) :
    hole c (Memref.whole b) = (iprop(∃ f : Buf (Elt F) ((c : Thread nD τ).loc b), ((c : Thread nD τ).loc b) ↦{fullShare} f) : sProp 𝕄) := by
  unfold hole slot
  simp only [Memref.view_whole, View.set_whole]

theorem ownd_whole (c : Dev nD) (b : Ref sig .tc) (X : b.ty.Contents (Elt F)) :
    ownd c (Memref.whole b) X = (((c : Thread nD τ).loc b) ↦{fullShare} X : sProp 𝕄) := by
  have h₁ : ownd c (Memref.whole b) X ⊢ (((c : Thread nD τ).loc b) ↦{fullShare} X : sProp 𝕄) := by
    unfold ownd owns
    simp only [Memref.view_whole, View.read_whole, View.set_whole]
    iintro ⟨%f, %hf, H⟩
    subst hf
    iexact H
  have h₂ : (((c : Thread nD τ).loc b) ↦{fullShare} X : sProp 𝕄) ⊢ ownd c (Memref.whole b) X := by
    unfold ownd owns
    simp only [Memref.view_whole, View.read_whole, View.set_whole]
    iintro H
    iexists X
    isplitr; · ipureintro; rfl
    iexact H
  exact BI.equiv_iff.mp ⟨h₁, h₂⟩

/-! ## The rectangles -/

section Parts

variable {s : Shape} {T : Type} [Fintype T] [DecidableEq T] (r : T → Rect s) (f : s.Idx → T) (h : ∀ t i, i ∈ (r t).set ↔ f i = t)
include h

/-- Rectangles each index lies in exactly one of are disjoint, -/
theorem parts_disj (t t' : T) (ht : t ≠ t') : Disjoint (r t).set (r t').set :=
  Finset.disjoint_left.mpr fun i hi hi' => ht (((h t i).mp hi).symm.trans ((h t' i).mp hi'))

/-- and cover. -/
theorem parts_cov : (Finset.univ : Finset T).biUnion (fun t => (r t).set) = Finset.univ :=
  Finset.eq_univ_iff_forall.mpr fun i => Finset.mem_biUnion.mpr ⟨f i, Finset.mem_univ _, (h (f i) i).mpr rfl⟩

end Parts

theorem send_part (t : Fin 8) (i : S8x2x256x512.Idx) : i ∈ (rSend t).set ↔ (⟨(i 0).val, (i 0).isLt⟩ : Fin 8) = t := by
  have h1 : (i 1).val < 2 := (i 1).isLt
  have h2 : (i 2).val < 256 := (i 2).isLt
  have h3 : (i 3).val < 512 := (i 3).isLt
  rw [Rect.mem_set_unit, Fin.ext_iff]
  refine ⟨fun h => ?_, fun h a => ?_⟩
  · have h0 : t.val ≤ (i 0).val ∧ (i 0).val < t.val + 1 := h 0
    show (i 0).val = t.val
    omega
  · have h0 : (i 0).val = t.val := h
    match a with
    | 0 => show t.val ≤ (i 0).val ∧ (i 0).val < t.val + 1; omega
    | 1 => show 0 ≤ (i 1).val ∧ (i 1).val < 0 + 2; omega
    | 2 => show 0 ≤ (i 2).val ∧ (i 2).val < 0 + 256; omega
    | 3 => show 0 ≤ (i 3).val ∧ (i 3).val < 0 + 512; omega

theorem recv_part_mem (x : Fin 8 × Fin 2) (i : S8x2x2x256x512.Idx) :
    i ∈ (rRecv x.1 x.2).set ↔ ((⟨(i 0).val, (i 0).isLt⟩, ⟨(i 1).val, (i 1).isLt⟩) : Fin 8 × Fin 2) = x := by
  have h2 : (i 2).val < 2 := (i 2).isLt
  have h3 : (i 3).val < 256 := (i 3).isLt
  have h4 : (i 4).val < 512 := (i 4).isLt
  rw [Rect.mem_set_unit, Prod.ext_iff, Fin.ext_iff, Fin.ext_iff]
  refine ⟨fun h => ?_, fun h a => ?_⟩
  · have h0 : x.1.val ≤ (i 0).val ∧ (i 0).val < x.1.val + 1 := h 0
    have h1 : x.2.val ≤ (i 1).val ∧ (i 1).val < x.2.val + 1 := h 1
    show (i 0).val = x.1.val ∧ (i 1).val = x.2.val
    omega
  · have h0 : (i 0).val = x.1.val := h.1
    have h1 : (i 1).val = x.2.val := h.2
    match a with
    | 0 => show x.1.val ≤ (i 0).val ∧ (i 0).val < x.1.val + 1; omega
    | 1 => show x.2.val ≤ (i 1).val ∧ (i 1).val < x.2.val + 1; omega
    | 2 => show 0 ≤ (i 2).val ∧ (i 2).val < 0 + 2; omega
    | 3 => show 0 ≤ (i 3).val ∧ (i 3).val < 0 + 256; omega
    | 4 => show 0 ≤ (i 4).val ∧ (i 4).val < 0 + 512; omega

theorem stage_part (t : Fin 2) (i : S2x2x256x512.Idx) : i ∈ (rStage t).set ↔ (⟨(i 0).val, (i 0).isLt⟩ : Fin 2) = t := by
  have h1 : (i 1).val < 2 := (i 1).isLt
  have h2 : (i 2).val < 256 := (i 2).isLt
  have h3 : (i 3).val < 512 := (i 3).isLt
  rw [Rect.mem_set_unit, Fin.ext_iff]
  refine ⟨fun h => ?_, fun h a => ?_⟩
  · have h0 : t.val ≤ (i 0).val ∧ (i 0).val < t.val + 1 := h 0
    show (i 0).val = t.val
    omega
  · have h0 : (i 0).val = t.val := h
    match a with
    | 0 => show t.val ≤ (i 0).val ∧ (i 0).val < t.val + 1; omega
    | 1 => show 0 ≤ (i 1).val ∧ (i 1).val < 0 + 2; omega
    | 2 => show 0 ≤ (i 2).val ∧ (i 2).val < 0 + 256; omega
    | 3 => show 0 ≤ (i 3).val ∧ (i 3).val < 0 + 512; omega

theorem ost_part (t : Fin 2) (i : S2x2x256x1024.Idx) : i ∈ (rOst t).set ↔ (⟨(i 0).val, (i 0).isLt⟩ : Fin 2) = t := by
  have h1 : (i 1).val < 2 := (i 1).isLt
  have h2 : (i 2).val < 256 := (i 2).isLt
  have h3 : (i 3).val < 1024 := (i 3).isLt
  rw [Rect.mem_set_unit, Fin.ext_iff]
  refine ⟨fun h => ?_, fun h a => ?_⟩
  · have h0 : t.val ≤ (i 0).val ∧ (i 0).val < t.val + 1 := h 0
    show (i 0).val = t.val
    omega
  · have h0 : (i 0).val = t.val := h
    match a with
    | 0 => show t.val ≤ (i 0).val ∧ (i 0).val < t.val + 1; omega
    | 1 => show 0 ≤ (i 1).val ∧ (i 1).val < 0 + 2; omega
    | 2 => show 0 ≤ (i 2).val ∧ (i 2).val < 0 + 256; omega
    | 3 => show 0 ≤ (i 3).val ∧ (i 3).val < 0 + 1024; omega

/-- Which block of rows block `k` is. -/
def oRow (d : Dev nD) : Fin 8 → Fin 8
  | 0 => num8 (2 * ((d.val + 3) % 4))
  | 1 => num8 (2 * ((d.val + 2) % 4))
  | 2 => num8 (2 * ((d.val + 1) % 4))
  | 3 => num8 (2 * ((d.val + 3) % 4) + 1)
  | 4 => num8 (2 * d.val)
  | 5 => num8 (2 * ((d.val + 2) % 4) + 1)
  | 6 => num8 (2 * ((d.val + 1) % 4) + 1)
  | 7 => num8 (2 * d.val + 1)

/-- Which block rows `256 * n` on are. -/
def oNum (d : Dev nD) (n : Fin 8) : Fin 8 := (Finset.univ.filter (fun k => oRow d k = n)).sup id

theorem oRow_oNum (d : Dev nD) (n : Fin 8) : oRow d (oNum d n) = n := by revert d n; decide +kernel
theorem oNum_oRow (d : Dev nD) (k : Fin 8) : oNum d (oRow d k) = k := by revert d k; decide +kernel
theorem oOff_eq (d : Dev nD) (k : Fin 8) : oOff d k = ![0, 256 * (oRow d k).val, 0] := by revert d k; decide +kernel

theorem o_part (d : Dev nD) (k : Fin 8) (i : S2x2048x1024.Idx) : i ∈ (rO d k).set ↔ oNum d (num8 ((i 1).val / 256)) = k := by
  have h0 : (i 0).val < 2 := (i 0).isLt
  have h1 : (i 1).val < 2048 := (i 1).isLt
  have h2 : (i 2).val < 1024 := (i 2).isLt
  have hk : oNum d (num8 ((i 1).val / 256)) = k ↔ (i 1).val / 256 = (oRow d k).val := by
    constructor
    · intro h
      rw [← h, oRow_oNum]
      show _ = _ % 8
      omega
    · intro h
      rw [h, num8_val, oNum_oRow]
  rw [hk, Rect.mem_set_unit, oOff_eq]
  refine ⟨fun h => ?_, fun h a => ?_⟩
  · have h1 : 256 * (oRow d k).val ≤ (i 1).val ∧ (i 1).val < 256 * (oRow d k).val + 256 := h 1
    omega
  · match a with
    | 0 => show 0 ≤ (i 0).val ∧ (i 0).val < 0 + 2; omega
    | 1 => show 256 * (oRow d k).val ≤ (i 1).val ∧ (i 1).val < 256 * (oRow d k).val + 256; omega
    | 2 => show 0 ≤ (i 2).val ∧ (i 2).val < 0 + 1024; omega

/-- Which finished tile an index of the result lies in. -/
def outNum (i : S2x512x4096.Idx) : ℕ := 8 * ((i 1).val / 256) + (i 2).val / 512

theorem outNum_lt (i : S2x512x4096.Idx) : outNum i < 16 := by
  have h1 : (i 1).val < 512 := (i 1).isLt
  have h2 : (i 2).val < 4096 := (i 2).isLt
  unfold outNum; omega

theorem out_part_mem (k : Fin 16) (i : S2x512x4096.Idx) : i ∈ (rOut (sub2 k) (num8 k)).set ↔ (⟨outNum i, outNum_lt i⟩ : Fin 16) = k := by
  have h0 : (i 0).val < 2 := (i 0).isLt
  have h1 : (i 1).val < 512 := (i 1).isLt
  have h2 : (i 2).val < 4096 := (i 2).isLt
  have hk := k.isLt
  rw [Fin.ext_iff, Rect.mem_set_unit]
  show _ ↔ 8 * ((i 1).val / 256) + (i 2).val / 512 = k.val
  refine ⟨fun h => ?_, fun h a => ?_⟩
  · have h1 : 256 * (k.val / 8 % 2) ≤ (i 1).val ∧ (i 1).val < 256 * (k.val / 8 % 2) + 256 := h 1
    have h2 : 512 * (k.val % 8) ≤ (i 2).val ∧ (i 2).val < 512 * (k.val % 8) + 512 := h 2
    omega
  · match a with
    | 0 => show 0 ≤ (i 0).val ∧ (i 0).val < 0 + 2; omega
    | 1 => show 256 * (k.val / 8 % 2) ≤ (i 1).val ∧ (i 1).val < 256 * (k.val / 8 % 2) + 256; omega
    | 2 => show 512 * (k.val % 8) ≤ (i 2).val ∧ (i 2).val < 512 * (k.val % 8) + 512; omega

end Cert.KernelIdeal.Steps
-- ==== Proof.Bufs.lean ====
module

public import proofs.«01_k».proof.Proof.Split

@[expose] public section

noncomputable section

/-! # The kernel's buffers taken apart, and put together again -/

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-- Buffer `b` of core `c` at any contents. -/
abbrev anyB (c : Dev nD) (b : Ref sig .tc) : sProp 𝕄 :=
  iprop(∃ f : Buf (Elt F) ((c : Thread nD τ).loc b), ((c : Thread nD τ).loc b) ↦{fullShare} f)

theorem anyB_hole (c : Dev nD) (b : Ref sig .tc) : (anyB c b : sProp 𝕄) = hole c (Memref.whole b) := (hole_whole c b).symm

variable (c : Dev nD)

theorem send_holes : anyB c cc0_scratch0 = (bigSep Finset.univ (fun nt : Fin 8 => hole c (send nt)) : sProp 𝕄) := by
  rw [anyB_hole, bigSep_congr (fun nt _ => hole_squeeze c (mSend.slice (rSend nt) (fun _ => rfl)) squeezes_S1x2x256x512_S2x256x512)]
  have hd := parts_disj rSend _ send_part
  have hc := parts_cov rSend _ send_part
  exact BI.equiv_iff.mp ⟨holes_split c mSend rSend (fun _ _ => rfl) hd hc, holes_join c mSend rSend (fun _ _ => rfl) hd hc⟩

theorem recv_holes : anyB c cc0_scratch1
    = (bigSep Finset.univ (fun nt : Fin 8 => bigSep Finset.univ (fun s : Fin 2 => hole c (recv nt s))) : sProp 𝕄) := by
  rw [anyB_hole, ← bigSep_univ_prod (fun x : Fin 8 × Fin 2 => hole c (recv x.1 x.2)),
    bigSep_congr (fun (x : Fin 8 × Fin 2) _ => hole_squeeze c (mRecv.slice (rRecv x.1 x.2) (fun _ => rfl)) squeezes_S1x1x2x256x512_S2x256x512)]
  have hd := parts_disj (fun x : Fin 8 × Fin 2 => rRecv x.1 x.2) _ recv_part_mem
  have hc := parts_cov (fun x : Fin 8 × Fin 2 => rRecv x.1 x.2) _ recv_part_mem
  exact BI.equiv_iff.mp ⟨holes_split c mRecv (fun x : Fin 8 × Fin 2 => rRecv x.1 x.2) (fun _ _ => rfl) hd hc,
    holes_join c mRecv (fun x : Fin 8 × Fin 2 => rRecv x.1 x.2) (fun _ _ => rfl) hd hc⟩

theorem stage_holes : anyB c cc0_scratch2 = (iprop(hole c (stage 0) ∗ hole c (stage 1)) : sProp 𝕄) := by
  rw [← two (fun s => hole c (stage s)), anyB_hole,
    bigSep_congr (fun s _ => hole_squeeze c (mStage.slice (rStage s) (fun _ => rfl)) squeezes_S1x2x256x512_S2x256x512)]
  have hd := parts_disj rStage _ stage_part
  have hc := parts_cov rStage _ stage_part
  exact BI.equiv_iff.mp ⟨holes_split c mStage rStage (fun _ _ => rfl) hd hc, holes_join c mStage rStage (fun _ _ => rfl) hd hc⟩

theorem ost_holes : anyB c cc0_scratch3 = (iprop(hole c (ost 0) ∗ hole c (ost 1)) : sProp 𝕄) := by
  rw [← two (fun s => hole c (ost s)), anyB_hole,
    bigSep_congr (fun s _ => hole_squeeze c (mOst.slice (rOst s) (fun _ => rfl)) squeezes_S1x2x256x1024_S2x256x1024)]
  have hd := parts_disj rOst _ ost_part
  have hc := parts_cov rOst _ ost_part
  exact BI.equiv_iff.mp ⟨holes_split c mOst rOst (fun _ _ => rfl) hd hc, holes_join c mOst rOst (fun _ _ => rfl) hd hc⟩

variable (A : Dev nD → S2x2048x1024.Idx → Elt F .bf16) (B : Dev nD → S1024x4096.Idx → Elt F .bf16)

/-- All of `O` is its eight blocks of rows. -/
theorem o_blocks : ownd c mO (A c) = (bigSep Finset.univ (fun k : Fin 8 => ownd c (oSrc c k) (oBlk A c k)) : sProp 𝕄) := by
  have hd := parts_disj (rO c) _ (o_part c)
  have hc := parts_cov (rO c) _ (o_part c)
  exact BI.equiv_iff.mp ⟨owns_rects (c : Thread nD τ) mO fullShare (rO c) (fun _ _ => rfl) hd hc (A c),
    owns_of_rects (c : Thread nD τ) mO fullShare (rO c) (fun _ _ => rfl) hd hc (A c)⟩

/-- A run over the numbers below `n`. -/
theorem run_fin (n : ℕ) (Φ : ℕ → sProp 𝕄) : bigSep (Finset.range n) Φ = bigSep Finset.univ (fun k : Fin n => Φ k) := by
  rw [show Finset.range n = (Finset.univ : Finset (Fin n)).map Fin.valEmbedding from by
    ext x; simp only [Finset.mem_range, Finset.mem_map, Finset.mem_univ, _root_.true_and, Fin.valEmbedding_apply]
    exact ⟨fun h => ⟨⟨x, h⟩, rfl⟩, fun ⟨k, hk⟩ => hk ▸ k.isLt⟩, bigSep_map]
  rfl

theorem run_fin' (n : ℕ) (Φ : ℕ → sProp 𝕄) : bigSep (Finset.Ico 0 n) Φ = bigSep Finset.univ (fun k : Fin n => Φ k) := by
  rw [← run_fin, Finset.range_eq_Ico]

theorem out_holes : anyB c main_v2 ⊢ (bigSep (Finset.Ico 0 16) (fun k => hole c (outDst (sub2 k) (num8 k))) : sProp 𝕄) := by
  rw [anyB_hole, run_fin']
  exact holes_split c mOut (fun k : Fin 16 => rOut (sub2 k) (num8 k)) (fun _ _ => rfl) (parts_disj _ _ out_part_mem) (parts_cov _ _ out_part_mem)

/-- An index of the result, within its tile. -/
def outIdx (i : S2x512x4096.Idx) : S2x256x512.Idx
  | 0 => ⟨(i 0).val, (i 0).isLt⟩
  | 1 => ⟨(i 1).val % 256, Nat.mod_lt _ (by decide)⟩
  | 2 => ⟨(i 2).val % 512, Nat.mod_lt _ (by decide)⟩

/-- A device's whole result. -/
def outV (i : S2x512x4096.Idx) : Elt F .f32 := res A B c (sub2 (outNum i)) (num8 (outNum i)) (outIdx i)

theorem outNum_emb (k : Fin 16) (j : S2x256x512.Idx) : outNum ((rOut (sub2 k) (num8 k)).emb j) = k.val := by
  have h1 : (j 1).val < 256 := (j 1).isLt
  have h2 : (j 2).val < 512 := (j 2).isLt
  have hk := k.isLt
  show 8 * ((256 * (k.val / 8 % 2) + 1 * (j 1).val) / 256) + (512 * (k.val % 8) + 1 * (j 2).val) / 512 = k.val
  omega

theorem outIdx_emb (k : Fin 16) (j : S2x256x512.Idx) : outIdx ((rOut (sub2 k) (num8 k)).emb j) = j := by
  have h1 : (j 1).val < 256 := (j 1).isLt
  have h2 : (j 2).val < 512 := (j 2).isLt
  have hk := k.isLt
  funext a
  match a with
  | 0 => exact Fin.ext (show 0 + 1 * (j 0).val = (j 0).val by omega)
  | 1 => exact Fin.ext (show (256 * (k.val / 8 % 2) + 1 * (j 1).val) % 256 = (j 1).val by omega)
  | 2 => exact Fin.ext (show (512 * (k.val % 8) + 1 * (j 2).val) % 512 = (j 2).val by omega)

theorem outV_emb (k : Fin 16) : (fun j => outV c A B ((rOut (sub2 k) (num8 k)).emb j)) = res A B c (sub2 k) (num8 k) := by
  funext j
  unfold outV
  rw [outNum_emb, outIdx_emb]

/-- The finished tiles are the result. -/
theorem out_join : bigSep (Finset.range 16) (outDone A B c) ⊢ (ownd c mOut (outV c A B) : sProp 𝕄) := by
  rw [run_fin]
  refine (Entails.of_eq (bigSep_congr fun k _ => ?_)).trans
    (owns_of_rects (c : Thread nD τ) mOut fullShare (fun k : Fin 16 => rOut (sub2 k) (num8 k)) (fun _ _ => rfl)
      (parts_disj _ _ out_part_mem) (parts_cov _ _ out_part_mem) (outV c A B))
  unfold outDone
  rw [← outV_emb]

end Cert.KernelIdeal.Steps
-- ==== Proof.Credits.lean ====
module

public import proofs.«01_k».proof.Proof.Bufs

@[expose] public section

noncomputable section

/-! # The credit of the launch, dealt to the waits -/

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

theorem cred_two (a b : CellTallies nD τ sig ℕ) : (cred (a + b) : sProp 𝕄) = iprop(cred a ∗ cred b) :=
  BI.Entails.antisymm (cred_add _ _).1 (cred_add _ _).2

theorem cred_over {I : Type} [DecidableEq I] (S : Finset I) (f : I → CellTallies nD τ sig ℕ) :
    (cred (∑ i ∈ S, f i) : sProp 𝕄) = bigSep S fun i => cred (f i) := by
  induction S using Finset.induction_on with
  | empty => rw [Finset.sum_empty, cred_zero, bigSep_empty]; rfl
  | insert i S hi ih => rw [Finset.sum_insert hi, bigSep_insert hi, cred_two, ih]; rfl

/-- Nothing is owed to a core that is not a TensorCore. -/
def OnTc (T : CellTallies nD τ sig ℕ) : Prop := ∀ g : GSem nD τ sig, g.1.2 ≠ .tc → T g = 0

theorem onTc_add {S T : CellTallies nD τ sig ℕ} (hS : OnTc S) (hT : OnTc T) : OnTc (S + T) := fun g h => by
  rw [Pi.add_apply, hS g h, hT g h, add_zero]
theorem onTc_zero : OnTc 0 := fun _ _ => rfl
theorem onTc_sum {I : Type} (S : Finset I) (f : I → CellTallies nD τ sig ℕ) (h : ∀ i, OnTc (f i)) : OnTc (∑ i ∈ S, f i) :=
  fun g hg => by rw [Finset.sum_apply]; exact Finset.sum_eq_zero fun i _ => h i g hg
theorem onTc_cell (c : Dev nD) (k : Cl) (i n : ℕ) : OnTc (tallyAt (cell c k) i n) := fun g h =>
  Pi.single_eq_of_ne (M := fun _ : GSem nD τ sig => ℕ →₀ ℕ) (fun e => h (congrArg (fun g : GSem nD τ sig => g.1.2) e)) _

theorem onTc_pay (c : Dev nD) (i : ℕ) : OnTc (pay c i) := by
  unfold pay
  refine onTc_add ?_ ?_
  · cases sndOf (i / 8) with
    | none => exact onTc_zero
    | some t => exact onTc_cell _ _ _ _
  · cases crdOf (i / 8) with
    | none => exact onTc_zero
    | some t => exact onTc_cell _ _ _ _

theorem onTc_owed₀ (c : Dev nD) : OnTc (owed₀ c) :=
  onTc_add (onTc_add (onTc_sum _ _ (onTc_pay c)) (onTc_cell _ _ _ _)) (onTc_cell _ _ _ _)

/-- All the cells of the TensorCores, of all there are. -/
theorem tally_cells (T : CellTallies nD τ sig ℕ) (hT : OnTc T) :
    T = ∑ x : Dev nD × SemLoc sig, tallyOn ((x.1 : Thread nD τ), x.2) (T ((x.1 : Thread nD τ), x.2)) := by
  funext g
  rw [Finset.sum_apply]
  obtain ⟨⟨d, p⟩, sm⟩ := g
  by_cases hp : p = .tc
  · subst hp
    rw [Finset.sum_eq_single (d, sm)]
    · exact (Pi.single_eq_same (M := fun _ : GSem nD τ sig => ℕ →₀ ℕ) ((d : Thread nD τ), sm) _).symm
    · intro x _ hx
      refine Pi.single_eq_of_ne (M := fun _ : GSem nD τ sig => ℕ →₀ ℕ) (fun e => hx ?_) _
      exact Prod.ext (congrArg (fun g : GSem nD τ sig => g.1.1) e).symm (congrArg Prod.snd e).symm
    · exact fun h => absurd (Finset.mem_univ _) h
  · rw [hT _ hp]
    refine (Finset.sum_eq_zero fun x _ => ?_).symm
    exact Pi.single_eq_of_ne (M := fun _ : GSem nD τ sig => ℕ →₀ ℕ) (fun e => hp (congrArg (fun g : GSem nD τ sig => g.1.2) e)) _

/-- The launch's credit is credit for all that is owed. -/
theorem launch_all : bigSep Finset.univ (Pipeline.launchCred owed₀) = (bigSep Finset.univ (fun d : Dev nD => cred (owed₀ d)) : sProp 𝕄) := by
  rw [← cred_over, tally_cells _ (onTc_sum _ _ onTc_owed₀), cred_over, bigSep_univ_prod]
  refine bigSep_congr fun c _ => bigSep_congr fun sm _ => ?_
  rw [show launchCredit (Pipeline.owing owed₀) 0 ((c : Thread nD τ), sm) = (∑ d : Dev nD, owed₀ d) ((c : Thread nD τ), sm) from
    Finsupp.ext fun i => by rw [Pipeline.launchCredit_owing, Finset.sum_apply, Finsupp.finsetSum_apply]]

/-- What one tile pays in all. -/
theorem tile_pays (d : Dev nD) (nt : Fin 8) :
    ∑ p : Fin 8, (owedSend d nt (sndOf p) + owedCred d nt (crdOf p))
      = (∑ t ∈ Finset.Ico 0 6, tallyAt (cell (nxtD d) (.recv nt (par t))) t nS) + ∑ j ∈ Finset.Ico 0 4, tallyAt (cell (prvD d) (.cred nt)) j 1 := by
  rw [Finset.sum_add_distrib]
  congr 1
  · rw [Fin.sum_univ_eight, Finset.sum_Ico_eq_sum_range, Finset.sum_range, Fin.sum_univ_six]
    show _ + _ + _ + _ + 0 + _ + _ + 0 = _
    rw [add_zero, add_zero]
    rfl
  · rw [Fin.sum_univ_eight, Finset.sum_Ico_eq_sum_range, Finset.sum_range, Fin.sum_univ_four]
    show 0 + _ + _ + 0 + _ + _ + 0 + 0 = _
    rw [add_zero, add_zero, add_zero, zero_add]
    rfl

theorem rem_tiles (d : Dev nD) : rem d 0 = ∑ nt : Fin 8, ∑ p : Fin 8, (owedSend d nt (sndOf p) + owedCred d nt (crdOf p)) := by
  unfold rem
  rw [Finset.sum_Ico_eq_sum_range, Finset.sum_range, Finset.sum_comm]
  rw [← Fintype.sum_prod_type (fun x : Fin 8 × Fin 8 => owedSend d x.2 (sndOf x.1) + owedCred d x.2 (crdOf x.1))]
  refine (Fintype.sum_equiv (finProdFinEquiv (m := 8) (n := 8)) _ _ fun x => ?_).symm
  obtain ⟨p, nt⟩ := x
  have h : 0 + ((finProdFinEquiv (p, nt) : Fin (8 * 8)) : ℕ) = nt.val + 8 * p.val := by rw [zero_add]; rfl
  rw [h]
  unfold pay
  have hp := p.isLt
  have hn := nt.isLt
  rw [show (nt.val + 8 * p.val) / 8 = p.val by omega, show num8 (nt.val + 8 * p.val) = nt from Fin.ext (by show (nt.val + 8 * p.val) % 8 = nt.val; omega)]

/-- The credit for what device `d` owes. -/
def payCred (d : Dev nD) : sProp 𝕄 :=
  iprop(bigSep Finset.univ (fun nt : Fin 8 => bigSep (Finset.Ico 0 6) (fun t => cred (tallyAt (cell (nxtD d) (.recv nt (par t))) t nS)))
    ∗ bigSep Finset.univ (fun nt : Fin 8 => bigSep (Finset.Ico 0 4) (fun j => cred (tallyAt (cell (prvD d) (.cred nt)) j 1)))
    ∗ cred (tallyAt (cell (nxtD d) .bar) 0 1) ∗ cred (tallyAt (cell (prvD d) .bar) 0 1))

theorem cred_owed (d : Dev nD) : (cred (owed₀ d) : sProp 𝕄) ⊢ payCred d := by
  unfold owed₀ payCred
  rw [cred_two, cred_two, rem_tiles, Finset.sum_congr rfl (fun nt _ => tile_pays d nt), Finset.sum_add_distrib, cred_two, cred_over, cred_over,
    bigSep_congr (fun nt _ => cred_over (Finset.Ico 0 6) (fun t => tallyAt (cell (nxtD d) (.recv nt (par t))) t nS)),
    bigSep_congr (fun nt _ => cred_over (Finset.Ico 0 4) (fun j => tallyAt (cell (prvD d) (.cred nt)) j 1))]
  iintro ⟨⟨⟨Ha, Hb⟩, Hc⟩, Hd⟩
  iframe

/-- The credit device `c`'s waits take. -/
def takes (c : Dev nD) : sProp 𝕄 :=
  iprop(bigSep Finset.univ (fun nt : Fin 8 => bigSep (Finset.Ico 0 6) (fun t => cred (tallyAt (cell c (.recv nt (par t))) t nS)))
    ∗ bigSep Finset.univ (fun nt : Fin 8 => bigSep (Finset.Ico 0 4) (fun j => cred (tallyAt (cell c (.cred nt)) j 1)))
    ∗ cred (tallyAt (cell c .bar) 0 2))

/-- A family over the devices, from its members one place round the ring. -/
theorem turn (e : Dev nD ≃ Dev nD) (Φ : Dev nD → sProp 𝕄) : bigSep Finset.univ (fun c => Φ (e c)) ⊢ bigSep Finset.univ Φ :=
  Entails.of_eq (bigSep_univ_equiv e Φ).symm

theorem bar_two (c : Dev nD) : (cred (tallyAt (cell c .bar) 0 2) : sProp 𝕄) = iprop(cred (tallyAt (cell c .bar) 0 1) ∗ cred (tallyAt (cell c .bar) 0 1)) := by
  rw [← cred_two]
  have h : (tallyAt (cell c .bar) 0 2 : CellTallies nD τ sig ℕ) = tallyAt (cell c .bar) 0 1 + tallyAt (cell c .bar) 0 1 := by
    unfold tallyAt
    rw [← tallyOn_add, ← Finsupp.single_add]
  rw [h]

theorem launch_takes : bigSep Finset.univ (Pipeline.launchCred owed₀) ⊢ (bigSep Finset.univ (takes (F := F)) : sProp 𝕄) := by
  rw [launch_all]
  refine (bigSep_mono fun d _ => cred_owed d).trans ?_
  unfold payCred
  have h : (bigSep Finset.univ (takes (F := F)) : sProp 𝕄) = iprop(bigSep Finset.univ (fun c : Dev nD => bigSep Finset.univ (fun nt : Fin 8 => bigSep (Finset.Ico 0 6) (fun t => cred (tallyAt (cell c (.recv nt (par t))) t nS))))
    ∗ bigSep Finset.univ (fun c : Dev nD => bigSep Finset.univ (fun nt : Fin 8 => bigSep (Finset.Ico 0 4) (fun j => cred (tallyAt (cell c (.cred nt)) j 1))))
    ∗ bigSep Finset.univ (fun c : Dev nD => cred (tallyAt (cell c .bar) 0 1)) ∗ bigSep Finset.univ (fun c : Dev nD => cred (tallyAt (cell c .bar) 0 1))) := by
    unfold takes
    rw [bigSep_sep', bigSep_sep', bigSep_congr (fun c _ => bar_two c), bigSep_sep']
  rw [h, bigSep_sep', bigSep_sep', bigSep_sep']
  refine BI.sep_mono (turn ring (fun c => bigSep Finset.univ (fun nt : Fin 8 => bigSep (Finset.Ico 0 6) (fun t => (cred (tallyAt (cell c (.recv nt (par t))) t nS) : sProp 𝕄))))) ?_
  refine BI.sep_mono (turn ring.symm (fun c => bigSep Finset.univ (fun nt : Fin 8 => bigSep (Finset.Ico 0 4) (fun j => (cred (tallyAt (cell c (.cred nt)) j 1) : sProp 𝕄))))) ?_
  exact BI.sep_mono (turn ring (fun c => (cred (tallyAt (cell c .bar) 0 1) : sProp 𝕄))) (turn ring.symm (fun c => (cred (tallyAt (cell c .bar) 0 1) : sProp 𝕄)))

end Cert.KernelIdeal.Steps
-- ==== Proof.Toks.lean ====
module

public import proofs.«01_k».proof.Proof.Credits

@[expose] public section

noncomputable section

/-! # The cells and the tokens of the launch, dealt to the devices -/

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-- A device's cells that its kernel alone uses: all but the barrier. -/
abbrev Sc : Type := Fin 8 ⊕ (Fin 8 × Fin 2) ⊕ Fin 2 ⊕ Fin 2 ⊕ Fin 8

def scCl (s : Sc) : Cl := clEquiv (.inr s)

theorem scCl_inj : Function.Injective scCl := fun _ _ h => Sum.inr_injective (clEquiv.injective h)

def barEmb : Dev nD ↪ GSem nD τ sig := ⟨fun c => cell c .bar, fun _ _ h => (cell_inj h).1⟩
def scEmb : Dev nD × Sc ↪ GSem nD τ sig :=
  ⟨fun x => cell x.1 (scCl x.2), fun _ _ h => Prod.ext (cell_inj h).1 (scCl_inj (cell_inj h).2)⟩
def allEmb : Dev nD × Cl ↪ GSem nD τ sig := ⟨fun x => cell x.1 x.2, fun _ _ h => Prod.ext (cell_inj h).1 (cell_inj h).2⟩

abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact absurd (clEquiv.injective (a₁ := .inr x.2) (a₂ := .inl ()) (cell_inj h).2) (fun e => by cases e)

theorem all_sub : Finset.univ.map allEmb ⊆ barCells ∪ scCells := fun g h => by
  obtain ⟨⟨c, k⟩, -, rfl⟩ := Finset.mem_map.mp h
  obtain ⟨s, rfl⟩ := clEquiv.surjective k
  cases s with
  | inl u => exact Finset.mem_union_left _ (Finset.mem_map_of_mem barEmb (Finset.mem_univ c))
  | inr s => exact Finset.mem_union_right _ (Finset.mem_map_of_mem scEmb (Finset.mem_univ (c, s)))

/-- The duties of one device's cells. -/
abbrev Duty : Type := Fin 2 ⊕ (Fin 8 × Fin 6) ⊕ (Fin 8 × Fin 6) ⊕ Fin 16 ⊕ Fin 8 ⊕ (Fin 8 × Fin 4)

def dutyOf : Duty → Cl × ℕ × Fin 4
  | .inl d => (.bar, 0, num4 d)
  | .inr (.inl x) => (.send x.1, x.2, 0)
  | .inr (.inr (.inl x)) => (.recv x.1 (par x.2), x.2 / 2, 0)
  | .inr (.inr (.inr (.inl k))) => (.out (par k), k / 2, 0)
  | .inr (.inr (.inr (.inr (.inl k)))) => (.o (par k), k / 2, 0)
  | .inr (.inr (.inr (.inr (.inr x)))) => (.cred x.1, 0, num4 x.2)

theorem half_inj {n : ℕ} {a b : Fin n} (h : par a.val = par b.val) (h' : a.val / 2 = b.val / 2) : a = b := by
  have h₁ : a.val % 2 = b.val % 2 := congrArg Fin.val h
  exact Fin.ext (by omega)

theorem num4_inj {a b : Fin 4} (h : num4 a.val = num4 b.val) : a = b := by
  have h₁ : a.val % 4 = b.val % 4 := congrArg Fin.val h
  have := a.isLt
  have := b.isLt
  exact Fin.ext (by omega)

theorem dutyOf_inj : Function.Injective dutyOf := by
  rintro (a | ⟨a, a'⟩ | ⟨a, a'⟩ | a | a | ⟨a, a'⟩) (b | ⟨b, b'⟩ | ⟨b, b'⟩ | b | b | ⟨b, b'⟩) h <;>
    simp only [dutyOf, Prod.mk.injEq, reduceCtorEq, false_and, Cl.send.injEq, Cl.recv.injEq, Cl.out.injEq, Cl.o.injEq, Cl.cred.injEq] at h
  · have := congrArg Fin.val h.2.2
    have h₁ : a.val % 4 = b.val % 4 := this
    exact congrArg Sum.inl (Fin.ext (by omega))
  · obtain ⟨rfl, h, -⟩ := h
    rw [Fin.ext h]
  · obtain ⟨⟨rfl, h⟩, h', -⟩ := h
    rw [half_inj h h']
  · rw [half_inj h.1 h.2.1]
  · rw [half_inj h.1 h.2.1]
  · obtain ⟨rfl, -, h⟩ := h
    rw [num4_inj h]

def allToks : Finset (GSem nD τ sig × ℕ × Fin 4) :=
  Finset.univ.map ⟨fun x : Dev nD × Duty => (cell x.1 (dutyOf x.2).1, (dutyOf x.2).2), fun _ _ h =>
    Prod.ext (cell_inj (congrArg Prod.fst h)).1
      (dutyOf_inj (Prod.ext (cell_inj (congrArg Prod.fst h)).2 (congrArg (fun y : GSem nD τ sig × ℕ × Fin 4 => y.2) h)))⟩

def sendToks (c : Dev nD) : sProp 𝕄 :=
  bigSep Finset.univ fun nt : Fin 8 => bigSep (Finset.Ico 0 6) fun t => dutyTok ER (cell c (.send nt)) t 0
def recvToks (c : Dev nD) : sProp 𝕄 :=
  bigSep Finset.univ fun nt : Fin 8 => bigSep (Finset.Ico 0 6) fun t => dutyTok ER (cell c (.recv nt (par t))) (t / 2) 0
def outToks (c : Dev nD) : sProp 𝕄 := bigSep (Finset.Ico 0 16) fun k => dutyTok ER (cell c (.out (par k))) (k / 2) 0
def oToks (c : Dev nD) : sProp 𝕄 := bigSep Finset.univ fun k : Fin 8 => dutyTok ER (cell c (.o (par k))) (k / 2) 0
def credToks (c : Dev nD) : sProp 𝕄 :=
  bigSep Finset.univ fun nt : Fin 8 => bigSep (Finset.Ico 0 4) fun k => dutyTok ER (cell c (.cred nt)) 0 (num4 k)
def writeToks (c : Dev nD) : sProp 𝕄 :=
  bigSep Finset.univ fun nt : Fin 8 => bigSep (Finset.Ico 0 6) fun t => writeTok ES (c, nt, par t) (t / 2 + 1)

theorem toks_eq : bigSep allToks (fun x => dutyTok ER x.1 x.2.1 x.2.2)
    = (bigSep Finset.univ (fun c : Dev nD => iprop((dutyTok ER (cell c .bar) 0 0 ∗ dutyTok ER (cell c .bar) 0 1)
      ∗ sendToks c ∗ recvToks c ∗ outToks c ∗ oToks c ∗ credToks c)) : sProp 𝕄) := by
  unfold allToks
  rw [bigSep_map, bigSep_univ_prod]
  refine bigSep_congr fun c _ => ?_
  rw [bigSep_univ_sum, bigSep_univ_sum, bigSep_univ_sum, bigSep_univ_sum, bigSep_univ_sum, bigSep_univ_prod, bigSep_univ_prod, bigSep_univ_prod,
    bigSep_fin_two]
  unfold sendToks recvToks outToks oToks credToks
  simp only [run_fin']
  rfl

theorem toks_split : (bigSep Finset.univ (fun c : Dev nD => iprop((dutyTok ER (cell c .bar) 0 0 ∗ dutyTok ER (cell c .bar) 0 1)
      ∗ sendToks c ∗ recvToks c ∗ outToks c ∗ oToks c ∗ credToks c)) : sProp 𝕄)
    = iprop((bigSep Finset.univ (fun c : Dev nD => dutyTok ER (cell c .bar) 0 0) ∗ bigSep Finset.univ (fun c : Dev nD => dutyTok ER (cell c .bar) 0 1))
      ∗ bigSep Finset.univ sendToks ∗ bigSep Finset.univ recvToks ∗ bigSep Finset.univ outToks ∗ bigSep Finset.univ oToks ∗ bigSep Finset.univ credToks) := by
  simp only [bigSep_sep']

/-- Write tokens by transfer. -/
def wEmb : Dev nD × Fin 8 × Fin 6 ↪ Key × ℕ :=
  ⟨fun x => ((x.1, x.2.1, par x.2.2), x.2.2 / 2), by
    rintro ⟨a, a', a''⟩ ⟨b, b', b''⟩ h
    simp only [Prod.mk.injEq] at h
    obtain ⟨⟨rfl, rfl, h⟩, h'⟩ := h
    rw [half_inj h h']⟩

theorem writes_eq : bigSep ((Finset.univ : Finset Key) ×ˢ Finset.range 3) (fun x => writeTok ES x.1 (x.2 + 1))
    = (bigSep Finset.univ writeToks : sProp 𝕄) := by
  rw [show (Finset.univ : Finset Key) ×ˢ Finset.range 3 = Finset.univ.map wEmb from by
    ext ⟨⟨c, nt, s⟩, r⟩
    simp only [Finset.mem_product, Finset.mem_univ, _root_.true_and, Finset.mem_range, Finset.mem_map]
    constructor
    · intro h
      have := s.isLt
      exact ⟨(c, nt, ⟨2 * r + s.val, by omega⟩), Prod.ext (Prod.ext rfl (Prod.ext rfl (Fin.ext (show (2 * r + s.val) % 2 = s.val by omega))))
        (show (2 * r + s.val) / 2 = r by omega)⟩
    · rintro ⟨⟨d, n, t⟩, h⟩
      have h' : t.val / 2 = r := congrArg Prod.snd h
      have := t.isLt
      omega, bigSep_map, bigSep_univ_prod]
  refine bigSep_congr fun c _ => ?_
  rw [bigSep_univ_prod]
  unfold writeToks
  simp only [run_fin']
  rfl

/-- What stays with device `c`: its positions, its rights to open, the tokens of the duties it pays, and its credit. -/
def mine (c : Dev nD) : sProp 𝕄 :=
  iprop((sendToks c ∗ recvToks (nxtD c) ∗ writeToks (nxtD c) ∗ outToks c ∗ oToks c ∗ credToks (prvD c))
    ∗ (dutyTok ER (cell (prvD c) .bar) 0 0 ∗ dutyTok ER (cell (nxtD c) .bar) 0 1 ∗ atPos ER (cell c .bar) 0 ∅ 0)
    ∗ bigSep Finset.univ (fun nt : Fin 8 => bigSep Finset.univ (fun s : Fin 2 => readerAt ES (c, nt, s) 0))
    ∗ takes c)

variable (A : Dev nD → S2x2048x1024.Idx → Elt F .bf16) (B : Dev nD → S1024x4096.Idx → Elt F .bf16)

/-- What every device may consult. -/
def records (K : GSem nD τ sig → ℕ) (Kn : Key → ℕ) : sProp 𝕄 :=
  iprop(bigSep Finset.univ (fun x : Dev nD × Cl => cellInv ER (Rd A B) (K (cell x.1 x.2)) (cell x.1 x.2))
    ∗ bigSep Finset.univ (fun k : Key => slotInv ES (Kn k) k (hole k.1 (recv k.2.1 k.2.2)))
    ∗ bigSep Finset.univ (fun c : Dev nD => reached ER (cell c .bar) 0))

instance records_persistent (K : GSem nD τ sig → ℕ) (Kn : Key → ℕ) : BI.Persistent (records A B K Kn) := by
  unfold records; infer_instance

/-- A device's share of the launch. -/
def share (c : Dev nD) : sProp 𝕄 :=
  iprop(∃ (K : GSem nD τ sig → ℕ) (Kn : Key → ℕ), records A B K Kn ∗ (mine c ∗ bigSep Finset.univ (fun s : Sc => openTok ER (cell c (scCl s)))))

theorem mine_all : (bigSep Finset.univ (mine (F := F)) : sProp 𝕄) = iprop((bigSep Finset.univ sendToks ∗ bigSep Finset.univ recvToks ∗ bigSep Finset.univ writeToks
      ∗ bigSep Finset.univ outToks ∗ bigSep Finset.univ oToks ∗ bigSep Finset.univ credToks)
    ∗ (bigSep Finset.univ (fun c : Dev nD => dutyTok ER (cell c .bar) 0 0) ∗ bigSep Finset.univ (fun c : Dev nD => dutyTok ER (cell c .bar) 0 1)
      ∗ bigSep Finset.univ (fun c : Dev nD => atPos ER (cell c .bar) 0 ∅ 0))
    ∗ bigSep Finset.univ (fun x : Key => readerAt ES x 0) ∗ bigSep Finset.univ takes) := by
  rw [bigSep_univ_equiv ring (recvToks (F := F)), bigSep_univ_equiv ring (writeToks (F := F)), bigSep_univ_equiv ring.symm (credToks (F := F)),
    bigSep_univ_equiv ring.symm (fun c : Dev nD => (dutyTok ER (cell c .bar) 0 0 : sProp 𝕄)),
    bigSep_univ_equiv ring (fun c : Dev nD => (dutyTok ER (cell c .bar) 0 1 : sProp 𝕄)), bigSep_univ_prod,
    bigSep_congr (fun (c : Dev nD) _ => bigSep_univ_prod (fun x : Fin 8 × Fin 2 => (readerAt ES (c, x) 0 : sProp 𝕄)))]
  unfold mine
  simp only [bigSep_sep']
  rfl

theorem deal : iprop(bigSep Finset.univ (fun c : Dev nD => semVal (cell c .bar) 0) ∗ BI.own (ER (launchOf barCells scCells allToks))
      ∗ BI.own (ES (initSlots (Finset.univ : Finset Key) 3)) ∗ bigSep Finset.univ (Pipeline.launchCred owed₀))
    ⊢ (|={Set.univ}=> bigSep Finset.univ (share A B) : sProp 𝕄) := by
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (cell c .bar) 0 : sProp 𝕄)) :=
    Entails.of_eq (bigSep_map (s := Finset.univ) barEmb (Φ := fun g : GSem nD τ sig => (reached ER g 0 : sProp 𝕄)))
  have hop : bigSep scCells (fun g => (openTok ER g : sProp 𝕄))
      ⊢ bigSep Finset.univ (fun c : Dev nD => bigSep Finset.univ (fun s : Sc => openTok ER (cell c (scCl s)))) :=
    Entails.of_eq (by rw [bigSep_map, bigSep_univ_prod]; rfl)
  have hinv (K : GSem nD τ sig → ℕ) : bigSep (barCells ∪ scCells) (fun g => (cellInv ER (Rd A B) (K g) g : sProp 𝕄))
      ⊢ bigSep Finset.univ (fun x : Dev nD × Cl => cellInv ER (Rd A B) (K (cell x.1 x.2)) (cell x.1 x.2)) :=
    (bigSep_subset all_sub).trans (Entails.of_eq (bigSep_map (s := Finset.univ) allEmb (Φ := fun g => (cellInv ER (Rd A B) (K g) g : sProp 𝕄))))
  iintro ⟨Hv, Hu, Hw, Hc⟩
  imod (Rounds.fund_launch ER (Rd A B) disjoint_cells (fun g _ h => h) allToks) $$ [Hv Hu] with ⟨%K, -, Hinv, Hr, Hat, Hopen, Htok⟩
  · isplitl [Hv]
    · iapply hv $$ Hv
    · iexact Hu
  imod (slots_init ES (Finset.univ : Finset Key) 3 (fun k : Key => (hole k.1 (recv k.2.1 k.2.2) : sProp 𝕄))) $$ Hw with ⟨%Kn, -, Hsl, Hrd, Hwr⟩
  imodintro
  ihave Hinv := (hinv K) $$ Hinv
  ihave Hr := hre $$ Hr
  ihave Hat := hat $$ Hat
  ihave Hopen := hop $$ Hopen
  ihave Hc := launch_takes $$ Hc
  ihave Hwr := (Entails.of_eq writes_eq) $$ Hwr
  ihave Htok := (Entails.of_eq (toks_eq.trans toks_split)) $$ Htok
  icases Hinv with #Hinv
  icases Hsl with #Hsl
  icases Hr with #Hr
  iapply (bigSep_with_persistent (R := records A B K Kn)
    (Φ := fun c => iprop(mine c ∗ bigSep Finset.univ (fun s : Sc => openTok ER (cell c (scCl s)))))
    (fun c _ => by unfold share; iintro H; iexists K; iexists Kn; iexact H))
  isplitr
  · unfold records
    isplitr; · iexact Hinv
    isplitr; · iexact Hsl
    iexact Hr
  have hm : iprop(bigSep Finset.univ mine ∗ bigSep Finset.univ (fun c : Dev nD => bigSep Finset.univ (fun s : Sc => openTok ER (cell c (scCl s)))))
      ⊢ (bigSep Finset.univ (fun c : Dev nD => iprop(mine c ∗ bigSep Finset.univ (fun s : Sc => openTok ER (cell c (scCl s))))) : sProp 𝕄) :=
    Entails.of_eq (bigSep_sep' _ _ _).symm
  iapply hm
  rw [mine_all]
  icases Htok with ⟨⟨H0, H1⟩, Hs, Hv, Ho, Hoo, Hcr⟩
  iframe

end Cert.KernelIdeal.Steps
-- ==== Proof.Enter.lean ====
module

public import proofs.«01_k».proof.Proof.Toks

@[expose] public section

noncomputable section

/-! # Into the kernel's body, and out of it -/

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-- A family over the kernel's own cells, kind by kind. -/
theorem sc_split (Φ : Cl → sProp 𝕄) : bigSep Finset.univ (fun s : Sc => Φ (scCl s))
    = iprop(bigSep Finset.univ (fun nt : Fin 8 => Φ (.send nt))
      ∗ bigSep Finset.univ (fun nt : Fin 8 => bigSep Finset.univ (fun s : Fin 2 => Φ (.recv nt s)))
      ∗ (Φ (.out 0) ∗ Φ (.out 1)) ∗ (Φ (.o 0) ∗ Φ (.o 1)) ∗ bigSep Finset.univ (fun nt : Fin 8 => Φ (.cred nt))) := by
  rw [bigSep_univ_sum, bigSep_univ_sum, bigSep_univ_sum, bigSep_univ_sum, bigSep_univ_prod, bigSep_fin_two, bigSep_fin_two]
  rfl

/-- All a device's cells are the barrier's and the kernel's own. -/
theorem cl_split (Φ : Cl → sProp 𝕄) : bigSep Finset.univ Φ = iprop(Φ .bar ∗ bigSep Finset.univ (fun s : Sc => Φ (scCl s))) := by
  rw [bigSep_univ_equiv clEquiv Φ, bigSep_univ_sum, show (Finset.univ : Finset Unit) = {()} from rfl, bigSep_singleton]
  rfl

variable (A : Dev nD → S2x2048x1024.Idx → Elt F .bf16) (B : Dev nD → S1024x4096.Idx → Elt F .bf16) (c : Dev nD)

/-- The scratch buffers at any contents. -/
def scratch : sProp 𝕄 := iprop(anyB c cc0_scratch0 ∗ anyB c cc0_scratch1 ∗ anyB c cc0_scratch2 ∗ anyB c cc0_scratch3)

/-- What the region hands the body, its cells open. -/
def entry : sProp 𝕄 :=
  iprop(mine c ∗ bigSep Finset.univ (fun s : Sc => at_ c (scCl s) 0) ∗ bigSep Finset.univ (fun d : Dev nD => reached ER (cell d .bar) 0)
    ∗ scratch c ∗ ownd c mO (A c) ∗ anyB c main_v2 ∗ ownd c mW (B c) ∗ ow c (owed₀ c))

theorem enter : entry A B c ⊢ (pre A B c : sProp 𝕄) := by
  have hr (d : Dev nD) : bigSep Finset.univ (fun d : Dev nD => (reached ER (cell d .bar) 0 : sProp 𝕄)) ⊢ reached ER (cell d .bar) 0 :=
    bigSep_elim (Finset.mem_univ d)
  have ho : bigSep Finset.univ (oTok A c) = (iprop(oToks c ∗ ownd c mO (A c)) : sProp 𝕄) := by
    rw [o_blocks c A]; unfold oTok oToks; rw [bigSep_sep']
  have hs : bigSep Finset.univ (sendInit (F := F) c) = iprop((bigSep Finset.univ (fun nt : Fin 8 => hole c (send nt)) ∗ bigSep Finset.univ (fun nt : Fin 8 => at_ c (.send nt) 0))
      ∗ (sendToks c ∗ recvToks (nxtD c) ∗ writeToks (nxtD c)) ∗ bigSep Finset.univ (fun nt : Fin 8 => at_ c (.cred nt) 0)
      ∗ bigSep Finset.univ (fun nt : Fin 8 => bigSep (Finset.Ico 0 4) (fun j => cred (tallyAt (cell c (.cred nt)) j 1)))) := by
    unfold sendInit sFree sendToks recvToks writeToks
    have h (nt : Fin 8) : bigSep (Finset.Ico 0 6) (sendTok (F := F) c nt) = iprop(bigSep (Finset.Ico 0 6) (fun t => dutyTok ER (cell c (.send nt)) t 0)
        ∗ bigSep (Finset.Ico 0 6) (fun t => dutyTok ER (cell (nxtD c) (.recv nt (par t))) (t / 2) 0)
        ∗ bigSep (Finset.Ico 0 6) (fun t => writeTok ES (nxtD c, nt, par t) (t / 2 + 1))) := by
      unfold sendTok; rw [bigSep_sep', bigSep_sep']
    simp only [h, bigSep_sep']
  have hv : bigSep Finset.univ (recvInit (F := F) c) = iprop((bigSep Finset.univ (fun nt : Fin 8 => bigSep Finset.univ (fun s : Fin 2 => at_ c (.recv nt s) 0))
        ∗ bigSep Finset.univ (fun nt : Fin 8 => bigSep Finset.univ (fun s : Fin 2 => readerAt ES (c, nt, s) 0))
        ∗ bigSep Finset.univ (fun nt : Fin 8 => bigSep Finset.univ (fun s : Fin 2 => hole c (recv nt s))))
      ∗ bigSep Finset.univ (fun nt : Fin 8 => bigSep (Finset.Ico 0 6) (fun t => cred (tallyAt (cell c (.recv nt (par t))) t nS)))
      ∗ credToks (prvD c)) := by
    unfold recvInit credToks
    simp only [bigSep_sep']
  have hou : outPart A B c 0 = (iprop((outFree c 0 0 ∗ outFree c 1 0) ∗ (outToks c ∗ bigSep (Finset.Ico 0 16) (fun k => hole c (outDst (sub2 k) (num8 k))))
      ∗ emp) : sProp 𝕄) := by
    unfold outPart outTok outToks
    rw [two, bigSep_sep']
    rfl
  unfold entry pre mine scratch takes barInit oFree
  rw [ho, hs, hv, hou, send_holes, recv_holes, stage_holes, ost_holes, sc_split (fun k => at_ c k 0)]
  unfold outFree
  iintro ⟨⟨⟨Tsend, Trecv, Twr, Tout, To, Tcred⟩, ⟨Tb0, Tb1, Hat⟩, Hrd, ⟨Cr, Cc, Cb⟩⟩, ⟨Asend, Arecv, ⟨Aout0, Aout1⟩, ⟨Ao0, Ao1⟩, Acred⟩, #Hr,
    ⟨Hsend, Hrecv, ⟨Hst0, Hst1⟩, ⟨Hos0, Hos1⟩⟩, HO, Hv2, HW, How⟩
  ihave Hv2 := (out_holes c) $$ Hv2
  ihave #Hrp := (hr (prvD c)) $$ Hr
  ihave #Hrn := (hr (nxtD c)) $$ Hr
  iframe ∗ #

/-- What the body leaves: the buffers, and every cell after its last round. -/
def left : sProp 𝕄 :=
  iprop(scratch c ∗ ownd c mO (A c) ∗ ownd c mOut (outV c A B) ∗ ownd c mW (B c)
    ∗ bigSep Finset.univ (fun k : Cl => atPos ER (cell c k) (roundsK k) ∅ 0) ∗ ow c 0)

theorem leave : post A B c ⊢ (left A B c : sProp 𝕄) := by
  have hs (nt : Fin 8) : (iprop(sFree c nt 6 ∗ sendRest c nt 6 4) : sProp 𝕄)
      ⊢ iprop(hole c (send nt) ∗ atPos ER (cell c (.send nt)) 6 ∅ 0 ∗ atPos ER (cell c (.cred nt)) 1 ∅ 0) := by
    unfold sFree sendRest credS
    rw [if_neg (by decide)]
    iintro ⟨⟨Hh, Ha, -⟩, -, ⟨Hc, -⟩, -⟩
    iframe
  have hv (nt : Fin 8) : recvPart c nt 6 ⊢ (iprop(bigSep Finset.univ (fun s : Fin 2 => hole c (recv nt s))
      ∗ bigSep Finset.univ (fun s : Fin 2 => atPos ER (cell c (.recv nt s)) 3 ∅ 0)) : sProp 𝕄) := by
    unfold recvPart
    rw [two, two, two]
    show iprop((recvSlot c nt 0 3 ∗ recvSlot c nt 1 3) ∗ _) ⊢ _
    unfold recvSlot
    rw [if_neg (by decide), if_neg (by decide)]
    iintro ⟨⟨⟨Ha, -, Hh⟩, ⟨Ha', -, Hh'⟩⟩, -⟩
    iframe
  have hs' : bigSep Finset.univ (fun nt : Fin 8 => iprop(sFree c nt 6 ∗ sendRest c nt 6 4)) ⊢ (iprop(bigSep Finset.univ (fun nt : Fin 8 => hole c (send nt))
      ∗ bigSep Finset.univ (fun nt : Fin 8 => atPos ER (cell c (.send nt)) 6 ∅ 0) ∗ bigSep Finset.univ (fun nt : Fin 8 => atPos ER (cell c (.cred nt)) 1 ∅ 0)) : sProp 𝕄) := by
    refine (bigSep_mono fun nt _ => hs nt).trans ?_
    rw [bigSep_sep', bigSep_sep']
    exact Entails.refl _
  have hv' : recvs c 6 ⊢ (iprop(bigSep Finset.univ (fun nt : Fin 8 => bigSep Finset.univ (fun s : Fin 2 => hole c (recv nt s)))
      ∗ bigSep Finset.univ (fun nt : Fin 8 => bigSep Finset.univ (fun s : Fin 2 => atPos ER (cell c (.recv nt s)) 3 ∅ 0))) : sProp 𝕄) := by
    unfold recvs
    refine (bigSep_mono fun nt _ => hv nt).trans ?_
    rw [bigSep_sep']
    exact Entails.refl _
  unfold post left scratch oFree outFree
  rw [← o_blocks, send_holes, recv_holes, stage_holes, ost_holes, cl_split (fun k => atPos ER (cell c k) (roundsK k) ∅ 0),
    sc_split (fun k => atPos ER (cell c k) (roundsK k) ∅ 0)]
  iintro ⟨⟨⟨Hos0, Ho0, -⟩, ⟨Hos1, Ho1, -⟩, HO⟩, Hs, Hv, ⟨⟨Hst0, Hu0, -⟩, ⟨Hst1, Hu1, -⟩, Hd⟩, HW, ⟨Hb, -⟩, How⟩
  ihave ⟨Hs1, Hs2, Hs3⟩ := hs' $$ Hs
  ihave ⟨Hv1, Hv2⟩ := hv' $$ Hv
  ihave Hd := (out_join c A B) $$ Hd
  isplitl [Hs1 Hv1 Hst0 Hst1 Hos0 Hos1]
  · isplitl [Hs1]; · iexact Hs1
    isplitl [Hv1]; · iexact Hv1
    iframe
  isplitl [HO]; · iexact HO
  isplitl [Hd]; · iexact Hd
  isplitl [HW]; · iexact HW
  isplitr [How]
  · isplitl [Hb]; · iexact Hb
    isplitl [Hs2]; · iexact Hs2
    isplitl [Hv2]; · iexact Hv2
    isplitl [Hu0 Hu1]; · isplitl [Hu0]; · iexact Hu0
                         iexact Hu1
    isplitl [Ho0 Ho1]; · isplitl [Ho0]; · iexact Ho0
                         iexact Ho1
    iexact Hs3
  iexact How

end Cert.KernelIdeal.Steps
-- ==== Proof.Launch.lean ====
module

public import proofs.«01_k».proof.Proof.Enter
public import proofs.«01_k».proof.Proof.Gen.KernelIdeal.Launch
public import proofs.«01_k».proof.Proof.Gen.KernelIdeal.Points
public import Idealize.ShloMosaic.Lib.Rounds.Family
public import Idealize.ShloMosaic.Lib.Pipeline.RegionTalk

@[expose] public section

noncomputable section

/-! # The kernel's region: what it is given, what its body makes of it -/

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## What the buffers hold -/

/-- At launch, after the reshape, and after the kernel. -/
def V₀ (c : Dev nD) : Valuation τ sig (Elt F) := fun b => m (c, b)
def V₁ (c : Dev nD) : Valuation τ sig (Elt F) := StableHlo.after hostOps0 (V₀ m c)
/-- The rows the kernel multiplies, and the weights. -/
def vO (c : Dev nD) : S2x2048x1024.Idx → Elt F .bf16 := V₁ m c main_v1
def vW (c : Dev nD) : S1024x4096.Idx → Elt F .bf16 := V₁ m c main_arg1
def V₂ (c : Dev nD) : Valuation τ sig (Elt F) :=
  Function.update (V₁ m c) (Proc.devRef .tc main_v2) (outV c (vO m) (vW m))

abbrev pt (c : Dev nD) (b : Ref sig .tc) (f : Buf (Elt F) ((c : Thread nD τ).loc b)) : sProp 𝕄 :=
  ((c : Thread nD τ).loc b) ↦{fullShare} f

abbrev Hs : Finset (DevRef τ sig) := {Proc.devRef .tc main_v1, Proc.devRef .tc main_v2}

theorem held_Hs (c : Dev nD) (W : Valuation τ sig (Elt F)) :
    (StableHlo.held (c : Thread nD τ) Hs W : sProp 𝕄) = iprop(pt c main_v1 (W main_v1) ∗ pt c main_v2 (W main_v2)) := by
  unfold StableHlo.held
  rw [bigSep_eq_bigSepL_of_eq [Proc.devRef .tc main_v1, Proc.devRef .tc main_v2] (by decide) (by decide)]
  rfl

/-- The window's one block is its whole array. -/
theorem blk_whole (c : Dev nD) (f : Buf (Elt F) ((cfg0.win 0).arr.view.loc (c : Thread nD τ))) :
    ((cfg0.win 0).blk t0_0).view.read (Elt F) f = f := by
  funext i
  show f _ = f _
  congr 1
  funext a
  apply Fin.ext
  show ((win0_0).rect t0_0).off a + 1 * (i a).val = (i a).val
  match a with
  | 0 => show 0 + 1 * (i 0).val = (i 0).val; omega
  | 1 => show 0 + 1 * (i 1).val = (i 1).val; omega

/-! ## The kernel's own semaphores -/

def osem (s : Sc) : SemLoc sig := loc (scCl s)

theorem own_facts : Pipeline.OwnSemFacts spec0 osem where
  isScoped := by decide
  inj := fun _ _ h => scCl_inj (loc_inj h)
  disj := by decide

theorem ownSems_eq (c : Dev nD) : (Pipeline.ownSems0 osem c : sProp 𝕄) = bigSep Finset.univ (fun s : Sc => semVal (cell c (scCl s)) 0) := rfl

/-! ## The region's invariant -/

/-- The cells open, and what the device pays and waits with. -/
def Xk (c : Dev nD) : sProp 𝕄 :=
  iprop(∃ K Kn, ctx (vO m) (vW m) K Kn ∗ mine c ∗ bigSep Finset.univ (fun s : Sc => at_ c (scCl s) 0)
    ∗ bigSep Finset.univ (fun d : Dev nD => reached ER (cell d .bar) 0))
def Yk (c : Dev nD) : sProp 𝕄 := semVal (cell c .bar) 0

def phi0 (c : Dev nD) : sProp 𝕄 :=
  iprop(Pipeline.scopedRest spec0 c ∗ (∃ r, prngReg c r) ∗ StableHlo.held (c : Thread nD τ) Hs (V₁ m c) ∗ Xk m c)
def phi1 (c : Dev nD) : sProp 𝕄 :=
  iprop(Pipeline.scopedRest spec0 c ∗ (∃ r, prngReg c r) ∗ StableHlo.held (c : Thread nD τ) Hs (V₂ m c) ∗ Pipeline.ownSems0 osem c ∗ Yk c)

def dat0 (c : Dev nD) : Pipeline.Dat τ (Elt F) ℕ ℕ UU ℕ cfg0 c where
  A w := match w with | ⟨0, _⟩ => vW m c
  after w _ := match w with | ⟨0, _⟩ => vW m c
  Φ t := if t.val = 0 then phi0 m c else phi1 m c
  q _ := fullShare
  owed t := if t.val = 0 then owed₀ c else 0

/-! ## Opening and closing the cells -/

theorem pair_up {κ : Type} [Fintype κ] {Φ Ψ : κ → sProp 𝕄} :
    iprop(bigSep Finset.univ Φ ∗ bigSep Finset.univ Ψ) ⊢ bigSep Finset.univ (fun k => iprop(Φ k ∗ Ψ k)) :=
  Entails.of_eq (bigSep_sep _ _ _).symm
theorem pair_off {κ : Type} [Fintype κ] {Φ Ψ : κ → sProp 𝕄} :
    bigSep Finset.univ (fun k => iprop(Φ k ∗ Ψ k)) ⊢ iprop(bigSep Finset.univ Φ ∗ bigSep Finset.univ Ψ) :=
  Entails.of_eq (bigSep_sep _ _ _)

theorem hopen (c : Dev nD) : iprop(share (vO m) (vW m) c ∗ Pipeline.ownSems0 osem c ∗ levAts L lv) ⊢ (|={Set.univ}=> Xk m c : sProp 𝕄) := by
  rw [ownSems_eq]
  unfold share Xk ctx records
  iintro ⟨⟨%K, %Kn, ⟨#HI, #HS, #HR⟩, Hm, Hop⟩, Hv, #Hlev⟩
  have hI : bigSep Finset.univ (fun x : Dev nD × Cl => (cellInv ER (Rd (vO m) (vW m)) (K (cell x.1 x.2)) (cell x.1 x.2) : sProp 𝕄))
      ⊢ bigSep Finset.univ (fun s : Sc => cellInv ER (Rd (vO m) (vW m)) (K (cell c (scCl s))) (cell c (scCl s))) := by
    rw [bigSep_univ_prod]
    refine (bigSep_elim (Finset.mem_univ c)).trans ?_
    refine (Entails.of_eq (cl_split (fun k => cellInv ER (Rd (vO m) (vW m)) (K (cell c k)) (cell c k)))).trans ?_
    exact sep_elim_right
  ihave #HIc := hI $$ HI
  have ho := Rounds.cells_open ER (Rd (vO m) (vW m)) Finset.univ (fun s : Sc => cell c (scCl s)) (fun s => K (cell c (scCl s)))
    (Es := Set.univ) (fun s _ => Set.mem_univ _)
  imod ho $$ [Hop Hv] with Hat
  · isplitl [Hop]
    · iapply pair_up
      isplitr; · iexact HIc
      iexact Hop
    iexact Hv
  imodintro
  iexists K, Kn
  isplitr
  · isplitr; · iexact Hlev
    isplitr; · iexact HI
    iexact HS
  isplitl [Hm]; · iexact Hm
  isplitl [Hat]; · unfold at_; iexact Hat
  iexact HR

theorem close_cells (c : Dev nD) (K : GSem nD τ sig → ℕ) (Kn : Key → ℕ) :
    iprop(ctx (vO m) (vW m) K Kn ∗ bigSep Finset.univ (fun k : Cl => atPos ER (cell c k) (roundsK k) ∅ 0))
      ⊢ (|={Set.univ}=> iprop(Yk c ∗ Pipeline.ownSems0 osem c) : sProp 𝕄) := by
  have hI : bigSep Finset.univ (fun x : Dev nD × Cl => (cellInv ER (Rd (vO m) (vW m)) (K (cell x.1 x.2)) (cell x.1 x.2) : sProp 𝕄))
      ⊢ bigSep Finset.univ (fun k : Cl => cellInv ER (Rd (vO m) (vW m)) (K (cell c k)) (cell c k)) := by
    rw [bigSep_univ_prod]
    exact bigSep_elim (Finset.mem_univ c)
  have hc := Rounds.cells_close ER (Rd (vO m) (vW m)) Finset.univ (fun k : Cl => cell c k) (fun k => K (cell c k)) (Es := Set.univ)
    (fun k _ => Set.mem_univ _) (fun _ _ h => h) roundsK (fun k _ => duties_later (vO m) (vW m) c k)
  rw [ownSems_eq]
  unfold ctx Yk
  iintro ⟨⟨-, HI, -⟩, Hat⟩
  ihave HIc := hI $$ HI
  imod hc $$ [HIc Hat] with Hv
  · iapply pair_up
    isplitl [HIc]; · iexact HIc
    iexact Hat
  imodintro
  iapply (Entails.of_eq (cl_split (fun k => (semVal (cell c k) 0 : sProp 𝕄))))
  iexact Hv

/-! ## The body obligation -/

theorem before_in (c : Dev nD) (d : (cfg0.win 0).block.Idx → Elt F (cfg0.win 0).elt) : (dat0 m c).before 0 t0_0 d = vW m c := by
  unfold Pipeline.Dat.before
  rw [if_pos (by decide)]
  exact blk_whole c (vW m c)

theorem owed_first (c : Dev nD) : (dat0 m c).owed t0_0.castSucc = owed₀ c := by
  show (if (t0_0.castSucc : Fin (cfg0.N + 1)).val = 0 then owed₀ c else 0) = _
  exact if_pos rfl
theorem owed_last (c : Dev nD) : (dat0 m c).owed (Fin.last cfg0.N) = 0 := by
  show (if (Fin.last cfg0.N).val = 0 then owed₀ c else 0) = 0
  rw [Fin.val_last, if_neg (by rw [show cfg0.N = 1 from N_0]; decide)]

theorem phi_first (c : Dev nD) : (dat0 m c).Φ t0_0.castSucc = phi0 m c := by
  show (if (t0_0.castSucc : Fin (cfg0.N + 1)).val = 0 then phi0 m c else phi1 m c) = _
  exact if_pos rfl
theorem phi_last (c : Dev nD) : (dat0 m c).Φ t0_0.succ = phi1 m c := by
  show (if (t0_0.succ : Fin (cfg0.N + 1)).val = 0 then phi0 m c else phi1 m c) = _
  exact if_neg (Nat.succ_ne_zero _)

theorem owes_in (c : Dev nD) : ((dat0 m c).owesAt 0 t0_0.castSucc : sProp 𝕄) ⊢ ow c (owed₀ c) := by
  unfold Pipeline.Dat.owesAt Pipeline.owesWithin ow; rw [owed_first]
  iintro ⟨%W, -, HO⟩; iexists W; iexact HO
theorem owes_out (c : Dev nD) : ow c 0 ⊢ ((dat0 m c).owesAt 0 t0_0.succ : sProp 𝕄) := by
  unfold Pipeline.Dat.owesAt Pipeline.owesWithin ow Pipeline.Dat.bound
  rw [show (dat0 m c).owed t0_0.succ = 0 from owed_last m c]
  iintro ⟨%W, HO⟩; iexists W; isplitr; · ipureintro; exact fun _ _ => Or.inl trivial
  iexact HO

theorem body_ok (c : Dev nD) : Pipeline.BodyObligation (dat0 m c) defs₀ 𝒱₀ 0 Set.univ := fun t => by
  obtain rfl := fin_N0 t
  rw [bigSep_W0, bigSep_W0]
  rw [phi_first, phi_last]
  have hb : defs₀ (F := F) .tc cfg0.body (cfg0.bodyArgs t0_0 (cfg0.slots t0_0)) = body (F := F) := body_eq
  rw [hb]
  have hcl (K : GSem nD τ sig → ℕ) (Kn : Key → ℕ) : iprop(entry (vO m) (vW m) c ∗ ctx (vO m) (vW m) K Kn)
      ⊢ run c (body (F := F)) (fun _ => iprop(scratch c ∗ ownd c mO (vO m c) ∗ ownd c mOut (outV c (vO m) (vW m)) ∗ ownd c mW (vW m c)
        ∗ (Yk c ∗ Pipeline.ownSems0 osem c) ∗ ow c 0)) := by
    have hk : iprop(post (vO m) (vW m) c ∗ ctx (vO m) (vW m) K Kn)
        ⊢ (|={Set.univ}=> iprop(scratch c ∗ ownd c mO (vO m c) ∗ ownd c mOut (outV c (vO m) (vW m)) ∗ ownd c mW (vW m c)
          ∗ (Yk c ∗ Pipeline.ownSems0 osem c) ∗ ow c 0) : sProp 𝕄) := by
      iintro ⟨Hp, #Hctx⟩
      ihave Hl := (leave (vO m) (vW m) c) $$ Hp
      unfold left
      icases Hl with ⟨Hs, HO, Hv, HW, Hat, How⟩
      imod (close_cells m c K Kn) $$ [Hat] with Hc
      · isplitr; · iexact Hctx
        iexact Hat
      imodintro
      iframe
    have hr : body (F := F) = body (F := F) >>= fun _ => Prog.ret PUnit.unit := (bind_pure _).symm
    rw [hr]
    unfold run
    rw [wp_bind]
    iintro ⟨He, #Hctx⟩
    ihave Hpre := (enter (vO m) (vW m) c) $$ He
    iapply (body_run (A := vO m) (B := vW m)) $$ [Hpre]
    · isplitr; · iexact Hctx
      iexact Hpre
    iintro Hp
    rw [wp_ret]
    iapply hk
    isplitl [Hp]; · iexact Hp
    iexact Hctx
  have hpt (b : Ref sig .tc) (X : b.ty.Contents (Elt F)) : (pt c b X : sProp 𝕄) = ownd c (Memref.whole b) X := (ownd_whole c b X).symm
  unfold phi0 phi1
  rw [held_Hs, held_Hs, scopedRest0_eq]
  unfold Xk
  iintro ⟨⟨Hs, Hp, ⟨H1, H2⟩, ⟨%K, %Kn, #Hctx, Hm, Hat, #Hr⟩⟩, HO, ⟨%d, HW⟩⟩
  ihave HO := (owes_in m c) $$ HO
  have hW : (owns (c : Thread nD τ) ((cfg0.win 0).stage (cfg0.slots t0_0 0)) fullShare ((dat0 m c).before 0 t0_0 d) : sProp 𝕄) ⊢ ownd c mW (vW m c) := by
    rw [before_in]
  ihave HW := hW $$ HW
  have h1 : (pt c main_v1 (V₁ m c main_v1) : sProp 𝕄) ⊢ ownd c mO (vO m c) := Entails.of_eq (hpt main_v1 (vO m c))
  ihave H1 := h1 $$ H1
  iapply (wp_wand frame (wpE defs₀ 𝒱₀ c none) Set.univ) $$ [Hs H1 H2 Hm Hat HO HW]
  · iapply (hcl K Kn)
    isplitl
    · unfold entry scratch
      isplitl [Hm]; · iexact Hm
      isplitl [Hat]; · iexact Hat
      isplitr; · iexact Hr
      isplitl [Hs]; · iexact Hs
      isplitl [H1]; · iexact H1
      isplitl [H2]; · iexists _; iexact H2
      isplitl [HW]; · iexact HW
      iexact HO
    iexact Hctx
  iintro %u ⟨Hs, H1, H2, HW, ⟨Hy, Hsem⟩, HO⟩
  isplitr [HO HW]
  · isplitl [Hs]; · unfold scratch; iexact Hs
    isplitl [Hp]; · iexact Hp
    isplitl [H1 H2]
    · have h1 : ownd c mO (vO m c) ⊢ (pt c main_v1 (V₂ m c main_v1) : sProp 𝕄) := by
        rw [show V₂ m c main_v1 = vO m c from Function.update_of_ne (by decide) _ _]
        exact Entails.of_eq (hpt main_v1 (vO m c)).symm
      have h2 : ownd c mOut (outV c (vO m) (vW m)) ⊢ (pt c main_v2 (V₂ m c main_v2) : sProp 𝕄) := by
        rw [show V₂ m c main_v2 = outV c (vO m) (vW m) from Function.update_self _ _ _]
        exact Entails.of_eq (hpt main_v2 (outV c (vO m) (vW m))).symm
      isplitl [H1]; · iapply h1; iexact H1
      iapply h2; iexact H2
    isplitl [Hsem]; · iexact Hsem
    iexact Hy
  isplitl [HO]; · iapply (owes_out m c); iexact HO
  iexact HW

end Cert.KernelIdeal.Steps
-- ==== Proof.Run.lean ====
module

public import proofs.«01_k».proof.Proof.Launch

@[expose] public section

noncomputable section

/-! # The whole program's run -/

namespace Cert.KernelIdeal.Steps

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The buffers of the host program -/

def bufs : Finset (DevRef τ sig) := (StableHlo.tcRefs τ sig).filter fun b => ¬ b.isScoped
/-- All of them but the window's array. -/
abbrev Sr : Finset (DevRef τ sig) := {Proc.devRef .tc main_arg0, Proc.devRef .tc main_v1, Proc.devRef .tc main_v2}

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

theorem arr_eq : Pipeline.arrRefs (τ := τ) spec0 = {Proc.devRef .tc main_arg1} := by decide

theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) Sr W) := by
  rw [StableHlo.held_sub_split (c : Thread nD τ) (show Pipeline.arrRefs (τ := τ) spec0 ⊆ bufs by decide) W,
    show bufs \ Pipeline.arrRefs (τ := τ) spec0 = Sr by decide]

theorem unscoped_sems (c : Dev nD) : (unscopedSems0 c : sProp 𝕄) = semVal (cell c .bar) 0 := by
  unfold unscopedSems0
  rw [show (Finset.univ.filter fun sm : SemLoc sig => ¬ sm.isScoped .tc) = {loc .bar} from by decide, BI.bigSep_singleton]
  rfl

theorem unscoped_loc : ∀ sm : SemLoc sig, sm.isScoped .tc = false → sm = loc .bar := by decide

/-! ## The segments -/

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arr_arg1 (c : Dev nD) : V₂ m c main_arg1 = V₁ m c main_arg1 := Function.update_of_ne (by decide) _ _
theorem V₂_arg0 (c : Dev nD) : V₂ m c main_arg0 = V₁ m c main_arg0 := Function.update_of_ne (by decide) _ _
theorem V₂_v2 (c : Dev nD) : V₂ m c main_v2 = outV c (vO m) (vW m) := Function.update_self _ _ _

theorem owed_cut (c : Dev nD) (t : Fin ((Pipeline.pin (pcfgs (F := F)) adm 0).N + 1)) (g : GSem nD τ sig) (i : ℕ)
    (h : 0 < (pdats m 0 c).owed t g i) : i ∈ L g ∧ (0 : ℕ) < lv g i := by
  have e : (pdats m 0 c).owed t = if t.val = 0 then owed₀ c else 0 := rfl
  rw [e] at h
  split at h
  · exact above_owed₀ c g i h
  · exact absurd h (Nat.lt_irrefl 0)

/-- What rides beside the buffers up to the region. -/
def Rk (c : Dev nD) : sProp 𝕄 := iprop(share (vO m) (vW m) c ∗ (∃ r, prngReg c r) ∗ ∃ W, owes (c : Thread nD τ) (owed₀ c) W)

theorem w_zero (w : Fin cfg0.W) : w = 0 := Subsingleton.elim (α := Fin 1) w 0

/-- A staging cell is none of the kernel's: its level is 0. -/
theorem lv_stage (c : Dev nD) (ι : ℕ) : lv ((c : Thread nD τ), SemLoc.dma (sem0_0 0)) ι = 0 := by
  unfold lv kind
  rw [if_pos rfl]
  cases hk : Function.partialInv loc (SemLoc.dma (sem0_0 0)) with
  | none => rfl
  | some k =>
    have h : loc k = SemLoc.dma (sem0_0 0) := (Function.partialInv_of_injective loc_inj k _).1 hk
    obtain ⟨s, rfl⟩ := clEquiv.surjective k
    cases s with
    | inl u => exact absurd h (fun e => by cases e)
    | inr s => exact absurd h (own_facts.disj s 0 0)

theorem lv_window (c : Dev nD) (w : Fin cfg0.W) (s : Fin (cfg0.win w).nbuf) :
    lv ((c : Thread nD τ), SemLoc.dma ((cfg0.win w).sem s)) 0 ≤ 0 := by
  obtain rfl := w_zero w
  exact le_of_eq (lv_stage c 0)

theorem share_full (c : Dev nD) (w : Fin cfg0.W) : (dat0 m c).share w = fullShare := by
  unfold Pipeline.Dat.share
  split <;> rfl

theorem arr_in (c : Dev nD) (w : Fin cfg0.W) (n : ℕ) : (dat0 m c).arrAt w n = V₁ m c (Proc.devRef .tc (Pipeline.arrRef cfg0.spec w)) := by
  obtain rfl := w_zero w
  exact Pipeline.Dat.arrAt_in (dat0 m c) 0 rfl n

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem own_facts
    Hs Sr (by decide) kit rfl (fun c => (body_ok m c).loose)
    (fun _ => 0) owed₀ (fun c => (owed_first m c).trans (zero_add _).symm) (owed_last m) (fun _ => rfl) (share_full m)
    (V₁ m) (V₂ m) (fun c b hb => Function.update_of_ne (by rintro rfl; exact absurd hb (by decide)) _ _)
    (share (vO m) (vW m)) Yk (Xk m) Yk (hopen m) (fun c => Entails.refl _) (fun c => Entails.of_eq (phi_last m c))
    (fun c => by iintro H; imodintro; iexact H)
    (fun _ => 0)
    ⟨fun c w s => by rw [L_tc]; decide, lv_window, fun c t g i h => owed_cut m c t g i h⟩
    (fun _ => iprop(emp))
    (fun c w => arr_in m c w 0) (fun c w => (arr_in m c w _).trans (by obtain rfl := w_zero w; exact (arr_arg1 m c).symm))

theorem reg_pre (c : Dev nD) : iprop(StableHlo.held (c : Thread nD τ) bufs (V₁ m c) ∗ Rk m c) ⊢ (reg0 m).pre c := by
  show _ ⊢ iprop(StableHlo.held (c : Thread nD τ) (Pipeline.arrRefs (τ := τ) spec0) (V₁ m c) ∗ (∃ r, prngReg c r)
    ∗ (StableHlo.held (c : Thread nD τ) Sr (V₁ m c) ∗ emp) ∗ share (vO m) (vW m) c ∗ ∃ Wd, owes (c : Thread nD τ) (0 + owed₀ c) Wd)
  rw [bufs_split, zero_add]
  unfold Rk
  iintro ⟨⟨Ha, Hr⟩, Hs, Hp, HO⟩
  isplitl [Ha]; · iexact Ha
  isplitl [Hp]; · iexact Hp
  isplitl [Hr]
  · isplitl [Hr]; · iexact Hr
    iempintro
  isplitl [Hs]; · iexact Hs
  iexact HO

/-- What a device ends with. -/
abbrev Tₙ (c : Dev nD) : sProp 𝕄 := iprop(StableHlo.held (c : Thread nD τ) bufs (V₂ m c) ∗ Yk c)
/-- What it starts with. -/
abbrev T₀ (c : Dev nD) : sProp 𝕄 := iprop(StableHlo.held (c : Thread nD τ) bufs (V₀ m c) ∗ Rk m c)

theorem reg_post (c : Dev nD) : (reg0 m).post c ⊢ iprop(Tₙ m c ∗ ∃ W, owes (c : Thread nD τ) (0 : CellTallies nD τ sig ℕ) W) := by
  show iprop(StableHlo.held (c : Thread nD τ) (Pipeline.arrRefs (τ := τ) spec0) (V₂ m c) ∗ (∃ r, prngReg c r)
    ∗ (StableHlo.held (c : Thread nD τ) Sr (V₂ m c) ∗ emp) ∗ Yk c ∗ ∃ Wd, owes (c : Thread nD τ) (0 : CellTallies nD τ sig ℕ) Wd) ⊢ _
  unfold Tₙ
  rw [bufs_split]
  iintro ⟨Ha, -, ⟨Hr, -⟩, Hy, HO⟩
  isplitr [HO]
  · isplitr [Hy]
    · isplitl [Ha]; · iexact Ha
      iexact Hr
    iexact Hy
  iexact HO

theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide
theorem ops_fresh : ∀ op ∈ (hostOps0 : List (HloOp τ sig (Elt F))), op.fresh = ∅ := fun op h => by
  simp only [hostOps0, List.mem_singleton] at h; subst h; rfl

def host0 : Pipeline.HostSeg (Name := ℕ) (U := UU) (pcfgs (F := F)) defs₀ 𝒱₀ L lv :=
  Pipeline.HostSeg.ofOps _ _ _ _ _ bufs hostOps0 ops_sub ops_fresh (V₀ m) (Rk m)

def segs : List (Pipeline.Seg (pcfgs (F := F)) adm (pdats m) 0 defs₀ 𝒱₀ L lv) := [.host (host0 m), .region (reg0 m)]

/-! ## The launch -/

def u₀ : UU :=
  (initOf (Pipeline.cells (Pipeline.pin (pcfgs (F := F)) adm) cellOf_inj) (Pipeline.launchToks (Pipeline.pin (pcfgs (F := F)) adm) cellOf_inj),
    (launchOf barCells scCells allToks, initSlots Finset.univ 3))

/-- All of `X` with device 0. -/
def at0 (X : sProp 𝕄) (c : Dev nD) : sProp 𝕄 := if c = 0 then X else iprop(emp)
theorem at0_all (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp

/-- The tokens of the launch, before they are dealt. -/
def pot : sProp 𝕄 := iprop(BI.own (ER (launchOf barCells scCells allToks)) ∗ BI.own (ES (initSlots (Finset.univ : Finset Key) 3)))

theorem pot_split : BI.own (embR (launchOf barCells scCells allToks, initSlots (Finset.univ : Finset Key) 3)) ⊢ (pot : sProp 𝕄) := by
  unfold pot ER ES
  exact own_pair_emb (M' := 𝕄) (A := URounds (GSem nD τ sig) (Fin 4)) (B := USlots Key) embR _ _

theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ at0 pot c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ at0 pot c)
      ⊢ (iprop((StableHlo.held (c : Thread nD τ) bufs (V₀ m c) ∗ (∃ r, prngReg c r) ∗ ∃ W, owes (c : Thread nD τ) (owed₀ c) W)
        ∗ (semVal (cell c .bar) 0 ∗ (at0 pot c ∗ Pipeline.launchCred owed₀ c))) : sProp 𝕄) := by
    rw [show unscopedBufs c (fun b => m ((c : Thread nD τ).loc b)) = StableHlo.held (c : Thread nD τ) bufs (V₀ m c) from unscoped_held c (V₀ m c),
      unscoped_sems]
    iintro ⟨Hh, Hv, HO, Hc, Hp, HG⟩
    isplitl [Hh HO Hp]
    · isplitl [Hh]; · iexact Hh
      isplitl [Hp]; · iexists _; iexact Hp
      iexists _; iexact HO
    isplitl [Hv]; · iexact Hv
    isplitl [HG]; · iexact HG
    iexact Hc
  iintro ⟨H, -⟩
  ihave H := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ at0 pot c))
      ⊢ (bigSep Finset.univ fun c : Dev nD => iprop((StableHlo.held (c : Thread nD τ) bufs (V₀ m c) ∗ (∃ r, prngReg c r) ∗ ∃ W, owes (c : Thread nD τ) (owed₀ c) W)
        ∗ (semVal (cell c .bar) 0 ∗ (at0 pot c ∗ Pipeline.launchCred owed₀ c))) : sProp 𝕄) from bigSep_mono fun c _ => hcore c) $$ H
  ihave H := pair_off $$ H; icases H with ⟨HB, H⟩
  ihave H := pair_off $$ H; icases H with ⟨Hv, H⟩
  ihave H := pair_off $$ H; icases H with ⟨HG, Hc⟩
  ihave HG := (Entails.of_eq (at0_all (F := F) pot)) $$ HG
  unfold pot
  icases HG with ⟨HR, HS⟩
  imod (deal (vO m) (vW m)) $$ [Hv HR HS Hc] with Hsh
  · isplitl [Hv]; · iexact Hv
    isplitl [HR]; · iexact HR
    isplitl [HS]; · iexact HS
    iexact Hc
  imodintro
  have hT (c : Dev nD) : iprop(share (vO m) (vW m) c ∗ (StableHlo.held (c : Thread nD τ) bufs (V₀ m c) ∗ (∃ r, prngReg c r) ∗ ∃ W, owes (c : Thread nD τ) (owed₀ c) W))
      ⊢ (T₀ m c : sProp 𝕄) := by
    unfold T₀ Rk
    iintro ⟨Hs, Hh, Hp, HO⟩
    iframe
  have hT' : bigSep Finset.univ (fun c : Dev nD => iprop(share (vO m) (vW m) c
      ∗ (StableHlo.held (c : Thread nD τ) bufs (V₀ m c) ∗ (∃ r, prngReg c r) ∗ ∃ W, owes (c : Thread nD τ) (owed₀ c) W)))
      ⊢ (bigSep Finset.univ (T₀ m) : sProp 𝕄) := bigSep_mono fun c _ => hT c
  iapply hT'
  iapply pair_up
  isplitl [Hsh]; · iexact Hsh
  iexact HB

theorem V₁_ne (c : Dev nD) (b : Ref sig .tc) (h : b ≠ main_v1) : V₁ m c b = m ((c : Thread nD τ).loc b) := by
  show StableHlo.after hostOps0 (V₀ m c) (Proc.devRef .tc b) = _
  rw [StableHlo.after_cons, StableHlo.after_nil, StableHlo.reshape_result_ne _ _ _ _ _ _ _ h]
  rfl

set_option backward.isDefEq.respectTransparency.types false in
/-- From any memory with zero counters every fair execution ends, with the arguments unchanged, each device's result
    what the ring makes of them, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outV c (vO m) (vW m)) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (host0 m) (reg0 m) rfl c]; exact Entails.refl _)
    (by simp only [segs, Pipeline.Seg.pipes_host, Pipeline.Seg.pipes_region, Pipeline.Seg.pipes_nil]; decide)
    (O₀ := owed₀) (hL := L_of_ne) (G := at0 pot) (u₀ := u₀)
    (hu₀ := by
      unfold u₀
      iintro Hu
      ihave H := (ownU_pair _ _) $$ Hu
      icases H with ⟨HP, HX⟩
      imodintro
      isplitl [HP]; · iexact HP
      rw [at0_all]; iapply pot_split; iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v2).view.loc (c : Thread nD τ)) = V₂ m c main_v2) ∧ s.sem (cell c .bar) = 0)
    (hfin := fun c s' => by
      dsimp only [Tₙ]; rw [bufs_eq]; unfold Yk
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_arg0, V₁_ne m c main_arg0 (by decide)] at h0
        rw [arr_arg1, V₁_ne m c main_arg1 (by decide)] at h1
        rw [V₂_v2] at h2
        exact ⟨h0, h1, h2⟩,
      sem_eq_zero hs fun c sm hsm => by
        obtain rfl := unscoped_loc sm hsm
        exact (h c).2⟩)

end Cert.KernelIdeal.Steps
-- ==== Proof.Value.lean ====
module

public import proofs.«01_k».proof.Proof.Run
public import proofs.«01_k».proof.Proof.Gen.ReferenceIdeal.Run
public import Idealize.ShloMosaic.Lib.Pointwise

@[expose] public section

noncomputable section

/-! # The value of the result, over the extended reals -/

namespace Cert.KernelIdeal.Steps

open Idealize.ShloMosaic Idealize.ShloMosaic.TcCoe Idealize.SL.Sem
open Cert.KernelIdeal.Gen

/-! ## One device's share -/

section Shares

variable (A : Dev nD → S2x2048x1024.Idx → EReal) (B : Dev nD → S1024x4096.Idx → EReal)

/-- Row `r` of block `n` of the rows, and column `q` of tile `nt`. -/
def rowAt (n : Fin 8) (r : Fin 256) : Fin 2048 := ⟨256 * n.val + r.val, by omega⟩
def colAt (nt : Fin 8) (q : Fin 512) : Fin 4096 := ⟨512 * nt.val + q.val, by omega⟩

/-- What device `d`'s columns of `O` and rows of `Wo` contribute to one element of the product. -/
def part (d : Dev nD) (b : Fin 2) (s : Fin 2048) (n : Fin 4096) : EReal :=
  ∑ k : Fin 1024, A d (ix3 b s k) * B d (ix2 k n)

theorem rO_emb (d : Dev nD) (k : Fin 8) (b : Fin 2) (r : Fin 256) (x : Fin 1024) :
    (rO d k).emb (ix3 b r x) = ix3 b (rowAt (oRow d k) r) x := by
  funext a
  refine Fin.ext ?_
  show oOff d k a + 1 * (ix3 b r x a).val = _
  rw [oOff_eq]
  match a with
  | 0 => show 0 + 1 * b.val = b.val; omega
  | 1 => show 256 * (oRow d k).val + 1 * r.val = 256 * (oRow d k).val + r.val; omega
  | 2 => show 0 + 1 * x.val = x.val; omega

theorem rW_emb (nt : Fin 8) (x : Fin 1024) (q : Fin 512) : (rW nt).emb (ix2 x q) = ix2 x (colAt nt q) := by
  funext a
  refine Fin.ext ?_
  match a with
  | 0 => show 0 + 1 * x.val = x.val; omega
  | 1 => show 512 * nt.val + 1 * q.val = 512 * nt.val + q.val; omega

theorem dotV_at (o : FVec Ideal S2x256x1024 .bf16) (w : Vec Ideal S1024x512 .bf16) (b : Fin 2) (r : Fin 256) (q : Fin 512) :
    dotV o w (ix3 b r q) = ∑ k : Fin 1024, (o (ix3 b r k) : EReal) * (w (ix2 k q) : EReal) := by
  pointwise [dotV]

theorem dot_part (d : Dev nD) (k nt : Fin 8) (b : Fin 2) (r : Fin 256) (q : Fin 512) :
    dotV (F := Ideal) (oBlk A d k) (wTile B d nt) (ix3 b r q) = part A B d b (rowAt (oRow d k) r) (colAt nt q) := by
  rw [dotV_at]
  refine Finset.sum_congr rfl fun x _ => ?_
  show A d ((rO d k).emb (ix3 b r x)) * B d ((rW nt).emb (ix2 x q)) = _
  rw [rO_emb, rW_emb]

theorem tot_at (o : FVec Ideal S2x256x1024 .bf16) (w : Vec Ideal S1024x512 .bf16) (x : FVec Ideal S2x256x512 .bf16)
    (j : S2x256x512.Idx) : (totV o w x j : EReal) = dotV o w j + x j := rfl

theorem sent_seed (d : Dev nD) (nt : Fin 8) (j : S2x256x512.Idx) :
    (sent (F := Ideal) A B 0 d nt j : EReal) = dotV (F := Ideal) (oBlk A d 0) (wTile B d nt) j := rfl
theorem sent_seed' (d : Dev nD) (nt : Fin 8) (j : S2x256x512.Idx) :
    (sent (F := Ideal) A B 3 d nt j : EReal) = dotV (F := Ideal) (oBlk A d 3) (wTile B d nt) j := by
  unfold sent; rw [if_pos rfl]; rfl
theorem sent_fwd (t : ℕ) (ht : t ≠ 2) (d : Dev nD) (nt : Fin 8) (j : S2x256x512.Idx) :
    (sent (F := Ideal) A B (t + 1) d nt j : EReal)
      = dotV (F := Ideal) (oBlk A d (blkOf (t + 1))) (wTile B d nt) j + sent (F := Ideal) A B t (prvD d) nt j := by
  rw [sent, if_neg ht]; rfl

/-- Every device's block, on its way round, lands on the rows of the device it stops at. -/
theorem rows_meet (c : Dev nD) :
    oRow (prvD c) 2 = oRow c 4 ∧ oRow (prvD (prvD c)) 1 = oRow c 4 ∧ oRow (prvD (prvD (prvD c))) 0 = oRow c 4
    ∧ oRow (prvD c) 6 = oRow c 7 ∧ oRow (prvD (prvD c)) 5 = oRow c 7 ∧ oRow (prvD (prvD (prvD c))) 3 = oRow c 7 := by
  revert c; decide +kernel

/-- Once round the ring is every device. -/
theorem sum_ring (f : Dev nD → EReal) (c : Dev nD) :
    f c + (f (prvD c) + (f (prvD (prvD c)) + f (prvD (prvD (prvD c))))) = ∑ d, f d := by
  have h : (Finset.univ : Finset (Dev nD)) = {c, prvD c, prvD (prvD c), prvD (prvD (prvD c))} := by revert c; decide +kernel
  have hn : c ∉ ({prvD c, prvD (prvD c), prvD (prvD (prvD c))} : Finset (Dev nD))
      ∧ prvD c ∉ ({prvD (prvD c), prvD (prvD (prvD c))} : Finset (Dev nD))
      ∧ prvD (prvD c) ∉ ({prvD (prvD (prvD c))} : Finset (Dev nD)) := by clear h; revert c; decide +kernel
  rw [h, Finset.sum_insert hn.1, Finset.sum_insert hn.2.1, Finset.sum_insert hn.2.2, Finset.sum_singleton]

theorem res_half (c : Dev nD) (s : Fin 2) (nt : Fin 8) (b : Fin 2) (r : Fin 256) (q : Fin 512) :
    (res (F := Ideal) A B c s nt (ix3 b r q) : EReal)
      = ∑ d, part A B d b (rowAt (if s = 0 then oRow c 4 else oRow c 7) r) (colAt nt q) := by
  obtain ⟨h1, h2, h3, h4, h5, h6⟩ := rows_meet c
  unfold res
  by_cases hs : s = 0
  · rw [if_pos hs, if_pos hs, tot_at, sent_fwd A B 1 (by decide), sent_fwd A B 0 (by decide), sent_seed]
    simp only [dot_part, Nat.reduceAdd, blkOf]
    rw [h1, h2, h3]
    exact sum_ring (fun d => part A B d b (rowAt (oRow c 4) r) (colAt nt q)) c
  · rw [if_neg hs, if_neg hs, tot_at, sent_fwd A B 4 (by decide), sent_fwd A B 3 (by decide), sent_seed']
    simp only [dot_part, Nat.reduceAdd, blkOf]
    rw [h4, h5, h6]
    exact sum_ring (fun d => part A B d b (rowAt (oRow c 7) r) (colAt nt q)) c

theorem oRow_own (c : Dev nD) (s : Fin 2) : (if s = 0 then oRow c 4 else oRow c 7).val = 2 * c.val + s.val := by
  revert c s; decide +kernel

/-- Device `c`'s result at an index: every device's share of it, in the rows that are `c`'s. -/
theorem outV_at (c : Dev nD) (b : Fin 2) (r : Fin 512) (n : Fin 4096) (s : Fin 2048) (hs : s.val = 512 * c.val + r.val) :
    (outV (F := Ideal) c A B (ix3 b r n) : EReal) = ∑ d, part A B d b s n := by
  have hi : outIdx (ix3 b r n) = ix3 b (⟨r.val % 256, by omega⟩ : Fin 256) (⟨n.val % 512, by omega⟩ : Fin 512) := by
    funext a
    match a with
    | 0 => rfl
    | 1 => rfl
    | 2 => rfl
  unfold outV
  rw [hi, res_half]
  refine Finset.sum_congr rfl fun d _ => congrArg₂ (part A B d b) (Fin.ext ?_) (Fin.ext ?_)
  · show 256 * (if sub2 (outNum (ix3 b r n)) = 0 then oRow c 4 else oRow c 7).val + r.val % 256 = s.val
    rw [oRow_own]
    show 256 * (2 * c.val + (8 * (r.val / 256) + n.val / 512) / 8 % 2) + r.val % 256 = s.val
    omega
  · show 512 * ((8 * (r.val / 256) + n.val / 512) % 8) + n.val % 512 = n.val
    omega

end Shares

/-! ## The devices' shares together -/

/-- Index `k` among device `d`'s, among all devices'. -/
def colOf (d : Fin 4) (k : Fin 1024) : Fin 4096 := ⟨1024 * d.val + k.val, by omega⟩

theorem sum_cols (f : Fin 4096 → EReal) : ∑ d : Fin 4, ∑ k : Fin 1024, f (colOf d k) = ∑ K : Fin 4096, f K := by
  rw [← Equiv.sum_comp (finProdFinEquiv (m := 4) (n := 1024)) f, Fintype.sum_prod_type]
  refine Finset.sum_congr rfl fun d _ => Finset.sum_congr rfl fun k _ => congrArg f (Fin.ext ?_)
  show 1024 * d.val + k.val = k.val + 1024 * d.val
  omega

/-! ## Against the whole arrays -/

section Whole

open Cert.ReferenceIdeal (S2x2048x64x64 S2x2048x4096 S4096x4096 dot_S2x2048x4096_S4096x4096_S2x2048x4096_2_0_01_1_n_n)

variable (m : (ℓ : Loc nD τ sig) → Buf (Elt Ideal) ℓ)

theorem vO_eq (c : Dev nD) : vO m c = shapeCast S2x2048x1024 (m ((c : Thread nD τ).loc main_arg0)) shapeCasts_S2x2048x16x64_S2x2048x1024 := by
  unfold vO V₁ hostOps0
  after_results
  rfl

theorem vW_eq (c : Dev nD) : vW m c = m ((c : Thread nD τ).loc main_arg1) := V₁_ne m c main_arg1 (by decide)

/-- A device's rows, read in the whole array: its columns are its run of the heads'. -/
theorem shard_O (X : S2x2048x64x64.Idx → EReal) (c : Dev nD) (b : Fin 2) (s : Fin 2048) (k : Fin 1024) :
    shapeCast S2x2048x1024 (Layout.block ⟨4, ![2, 2048, 16, 64]⟩ ⟨4, ![2, 2048, 64, 64]⟩ 2 4 c X)
        shapeCasts_S2x2048x16x64_S2x2048x1024 (ix3 b s k)
      = shapeCast S2x2048x4096 X Cert.ReferenceIdeal.Gen.facts.shapeCasts_S2x2048x64x64_S2x2048x4096 (ix3 b s (colOf c k)) := by
  pointwise [Layout.block]
  refine congrArg X (funext fun a => Fin.ext ?_)
  match a with
  | 0 => rfl
  | 1 => rfl
  | 2 => show c.val * 16 + k.val / 64 = (1024 * c.val + k.val) / 64; omega
  | 3 => show k.val % 64 = (1024 * c.val + k.val) % 64; omega

theorem shard_W (Y : S4096x4096.Idx → EReal) (c : Dev nD) (k : Fin 1024) (n : Fin 4096) :
    (Layout.block ⟨2, ![1024, 4096]⟩ ⟨2, ![4096, 4096]⟩ 0 4 c Y (by decide)) (ix2 k n) = Y (ix2 (colOf c k) n) := by
  refine congrArg Y (funext fun a => Fin.ext ?_)
  match a with
  | 0 => show c.val * 1024 + k.val = 1024 * c.val + k.val; omega
  | 1 => rfl

/-- The reference's value: the whole product (its two conversions change nothing here). -/
def refV (X : FVec Ideal S2x2048x64x64 .bf16) (Y : FVec Ideal S4096x4096 .bf16) : FVec Ideal S2x2048x4096 .f32 :=
  extf .f32 (truncf .bf16 (Host.dotGeneral dot_S2x2048x4096_S4096x4096_S2x2048x4096_2_0_01_1_n_n none
    (shapeCast S2x2048x4096 X Cert.ReferenceIdeal.Gen.facts.shapeCasts_S2x2048x64x64_S2x2048x4096) Y) bitsLt_bf16_f32) bitsLt_bf16_f32

theorem refV_at (X : FVec Ideal S2x2048x64x64 .bf16) (Y : FVec Ideal S4096x4096 .bf16) (b : Fin 2) (s : Fin 2048) (n : Fin 4096) :
    (refV X Y (ix3 b s n) : EReal) = ∑ K : Fin 4096,
      (shapeCast S2x2048x4096 X Cert.ReferenceIdeal.Gen.facts.shapeCasts_S2x2048x64x64_S2x2048x4096 (ix3 b s K) : EReal) * (Y (ix2 K n) : EReal) := by
  generalize hZ : shapeCast S2x2048x4096 X Cert.ReferenceIdeal.Gen.facts.shapeCasts_S2x2048x64x64_S2x2048x4096 = Z
  unfold refV
  rw [hZ]
  pointwise

/-- Where every device starts with its shards, it ends with its rows of the whole product. -/
theorem result_shard (X : FVec Ideal S2x2048x64x64 .bf16) (Y : FVec Ideal S4096x4096 .bf16)
    (hO : ∀ c : Dev nD, m ((c : Thread nD τ).loc main_arg0) = Layout.block ⟨4, ![2, 2048, 16, 64]⟩ ⟨4, ![2, 2048, 64, 64]⟩ 2 4 c X)
    (hW : ∀ c : Dev nD, m ((c : Thread nD τ).loc main_arg1) = Layout.block ⟨2, ![1024, 4096]⟩ ⟨2, ![4096, 4096]⟩ 0 4 c Y)
    (c : Dev nD) :
    outV c (vO m) (vW m) = Layout.block ⟨3, ![2, 512, 4096]⟩ ⟨3, ![2, 2048, 4096]⟩ 1 4 c (refV X Y) := by
  funext i
  obtain ⟨b, r, n, rfl⟩ : ∃ (b : Fin 2) (r : Fin 512) (n : Fin 4096), i = ix3 b r n := ⟨i 0, i 1, i 2, eq_ix3 i⟩
  have hc : c.val < 4 := c.isLt
  let s : Fin 2048 := ⟨512 * c.val + r.val, by omega⟩
  have hi : Layout.block ⟨3, ![2, 512, 4096]⟩ ⟨3, ![2, 2048, 4096]⟩ 1 4 c (refV X Y) (by decide) (ix3 b r n) = refV X Y (ix3 b s n) := by
    refine congrArg (refV X Y) (funext fun a => Fin.ext ?_)
    match a with
    | 0 => rfl
    | 1 => show c.val * 512 + r.val = 512 * c.val + r.val; omega
    | 2 => rfl
  rw [hi]
  refine (outV_at (vO m) (vW m) c b r n s rfl).trans (Eq.trans ?_ (refV_at X Y b s n).symm)
  rw [← sum_cols]
  refine Finset.sum_congr rfl fun d _ => Finset.sum_congr rfl fun k _ => ?_
  rw [vO_eq, vW_eq, hO, hW]
  exact congrArg₂ (· * ·) (shard_O X d b s k) (shard_W Y d k n)

end Whole

end Cert.KernelIdeal.Steps
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The kernel's frame: its run (Proof/Run.lean), at the device's own floats. -/
theorem frame_kernel : Cert.quiescent_Kernel := fun m ρ _ => by
  rw [defs_same]
  exact (θ_run (Cert.KernelIdeal.defs (F := Bits)) _ _).mono (fun _ h => ⟨fun c => ⟨(h.1 c).1, (h.1 c).2.1⟩, h.2⟩)
    (Cert.KernelIdeal.Steps.run_main (F := Bits) m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Steps.run_main (F := Ideal) m ρ)

/-- The reference's frame: four host operations, and no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device ends with its rows of the whole product. -/
theorem value : Cert.algebraic_KernelIdeal_ReferenceIdeal := by
  intro m ρ m' ρ' _ hm
  refine ⟨Cert.KernelIdeal.Steps.refV
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (Cert.KernelIdeal.Steps.run_main (F := Ideal) m ρ)
    exact Cert.KernelIdeal.Steps.result_shard m _ _ (fun d => (hm d).1) (fun d => (hm d).2) c
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
